-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_vocab : Cert.Pre_in_vocab.Facts] (m : (ℓ : Loc Cert.Reference.nD Cert.Reference.τ Cert.Reference.sig) → Buf (Elt Bits) ℓ) : Prop :=
  ∀ c : Dev Cert.Reference.nD,
    (Cert.Pre_in_vocab.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_vocab : Cert.Pre_in_vocab.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ quiescent_Reference (hReference := hReference) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
    ∧ bitexact_Kernel_Reference (hKernel := hKernel) (hReference := hReference) (hPre_in_vocab := hPre_in_vocab)
-- ==== Pre_in_vocab.lean ====
abbrev S4096x50 : Shape := ⟨2, ![4096, 50]⟩
abbrev S100000x128 : Shape := ⟨2, ![100000, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S1x204800 : Shape := ⟨2, ![1, 204800]⟩
abbrev S204800x128 : Shape := ⟨2, ![204800, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S4096x50x128 : Shape := ⟨3, ![4096, 50, 128]⟩

abbrev nBuf : Table → Nat
  | .hbm => 5
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S1x204800, .i32⟩
  | .hbm, ⟨3, _⟩ => ⟨S204800x128, .f32⟩
  | .hbm, ⟨4, _⟩ => ⟨S4096x50x128, .f32⟩
  | .local .scVector .vmem, ⟨0, _⟩ => ⟨S2x1x128, .i32⟩
  | .local .scVector .vmem, ⟨1, _⟩ => ⟨S2x128x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c50_i32_27_r0 : BitVec 32 := 50#32
  let v32_r0 : BitVec 32 := Scalar.addi c0_i32_26_r0 c50_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c49_i32_68_r0 : BitVec 32 := 49#32
  let v83_r0 : BitVec 1 := Scalar.cmpi .sge arg5_r0 c49_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c49_i32_55_r0 : BitVec 32 := 49#32
  let v65_r0 : BitVec 1 := Scalar.cmpi .eq arg5_r0 c49_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x204800.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x204800.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S204800x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S204800x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x204800.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x204800.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S204800x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S204800x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c49_i32_33_r0 : BitVec 32 := 49#32
  let v37_r0 : BitVec 32 := Scalar.select v36_r0 c49_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S204800x128.size a)
theorem k0_off19_inb : ∀ (i : grid0.Coords) (v33_4_r0 : BitVec 32) (k0_hw5 : k0_chk5 i v33_4_r0), ∀ a, (k0_off19 i v33_4_r0) a + S128x128.size a ≤ S204800x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Words.lean ====
module

public import proofs.«01_k».proof.Proof.Gen.KernelIdeal
public import proofs.«01_k».proof.Proof.Gen.KernelIdeal.Skeleton

/-! The words the pipeline carries from trip to trip, as functions of the trip number, and what the kernel computes
from them: which conditions hold, which slot and which window of the arrays each transfer addresses. The tile with
coordinates `i` handles the 50 windows of 128 indices that start at `first i`. -/

@[expose] public section

set_option maxRecDepth 65536

namespace Cert.Proof.Pipe

open Cert.KernelIdeal Cert.KernelIdeal.Gen
open Idealize.ShloMosaic

/-- The first row of tile `i`: 50 windows of 128 rows for each tile, 16 tiles for each SparseCore. -/
def first (i : grid0.Coords) : ℕ := 6400 * (i 1).val + 102400 * (i 0).val

/-- The first row of the tile's window `n`. -/
def row (i : grid0.Coords) (n : ℕ) : ℕ := first i + 128 * n

/-- The number of windows before the tile's first, as the kernel computes it. -/
def baseW (i : grid0.Coords) : BitVec 32 :=
  Scalar.muli (Scalar.addi (Scalar.addi 0#32 (Scalar.muli (BitVec.ofNat 32 (i 1).val) 1#32)) (Scalar.muli (BitVec.ofNat 32 (i 0).val) 16#32)) 50#32

/-- The number of index fetches issued before trip `t`. -/
def fetchedW (t : ℕ) : BitVec 32 := BitVec.ofNat 32 (min (t + 1) 50)
/-- The number of windows gathered before trip `t`. -/
def doneW (t : ℕ) : BitVec 32 := BitVec.ofNat 32 t
/-- The number of write-outs waited for before trip `t`. -/
def drainedW (t : ℕ) : BitVec 32 := BitVec.ofNat 32 (t - 1)
/-- The window of trip `t`, back at 0 after the last trip. -/
def windowW (t : ℕ) : BitVec 32 := BitVec.ofNat 32 (if t = 50 then 0 else t)

/-- The five words at the start of trip `t`. -/
abbrev wordsAt (t : ℕ) : BitVec 32 × BitVec 32 × BitVec 32 × BitVec 32 × BitVec 32 :=
  (fetchedW t, doneW t, doneW t, drainedW t, windowW t)

/-- The slot of a counter: its parity. -/
def slotOf (n : ℕ) : Fin 2 := ⟨n % 2, Nat.mod_lt _ (by decide)⟩

theorem trips_eq : k0_t1_loop.trips = 50 := by decide

/-! ## The conditions -/

theorem cond1_iff : ∀ (i : grid0.Coords) (t : Fin k0_t1_loop.trips), k0_cond1 i t (windowW t.val) = 1#1 ↔ t.val < 49 := by
  decide +kernel
theorem cond2_holds : ∀ (i : grid0.Coords) (t : Fin k0_t1_loop.trips), k0_cond2 i t (windowW t.val) = 1#1 := by
  decide +kernel
theorem cond5_holds : ∀ (i : grid0.Coords) (t : Fin k0_t1_loop.trips), k0_cond5 i t (windowW t.val) = 1#1 := by
  decide +kernel
theorem cond7_iff : ∀ (i : grid0.Coords) (t : Fin k0_t1_loop.trips), k0_cond7 i t (windowW t.val) = 1#1 ↔ t.val ≠ 0 := by
  decide +kernel

/-! ## The slots and the windows -/

theorem off4_eq : ∀ t : Fin k0_t1_loop.trips, t.val < 49 → k0_off4 (fetchedW t.val) = ![(slotOf (t.val + 1)).val, 0, 0] := by
  decide +kernel
theorem off5_eq : ∀ (i : grid0.Coords) (t : Fin k0_t1_loop.trips), t.val < 49 → k0_off5 i (windowW t.val) = ![0, row i (t.val + 1)] := by
  decide +kernel
theorem off6_eq : ∀ t : Fin k0_t1_loop.trips, t.val < 49 → k0_off6 (fetchedW t.val) = ![(slotOf (t.val + 1)).val] := by
  decide +kernel
theorem off7_eq : ∀ t : Fin k0_t1_loop.trips, k0_off7 (doneW t.val) = ![(slotOf t.val).val, 0, 0] := by decide +kernel
theorem off8_eq : ∀ (i : grid0.Coords) (t : Fin k0_t1_loop.trips), k0_off8 i (windowW t.val) = ![0, row i t.val] := by
  decide +kernel
theorem off9_eq : ∀ t : Fin k0_t1_loop.trips, k0_off9 (doneW t.val) = ![(slotOf t.val).val] := by decide +kernel
theorem off10_eq : ∀ t : Fin k0_t1_loop.trips, k0_off10 (doneW t.val) = ![(slotOf t.val).val, 0, 0] := by decide +kernel
theorem off11_eq : ∀ t : Fin k0_t1_loop.trips, k0_off11 (doneW t.val) = ![(slotOf t.val).val, 0, 0] := by decide +kernel
theorem off12_eq : ∀ t : Fin k0_t1_loop.trips, k0_off12 (doneW t.val) = ![(slotOf t.val).val, 0, 0] := by decide +kernel
theorem off13_eq : ∀ (i : grid0.Coords) (t : Fin k0_t1_loop.trips), k0_off13 i (windowW t.val) = ![row i t.val, 0] := by
  decide +kernel
theorem off14_eq : ∀ t : Fin k0_t1_loop.trips, k0_off14 (doneW t.val) = ![(slotOf t.val).val] := by decide +kernel
theorem off15_eq : ∀ t : Fin k0_t1_loop.trips, t.val ≠ 0 → k0_off15 (drainedW t.val) = ![(slotOf (t.val + 1)).val, 0, 0] := by
  decide +kernel
theorem off16_eq : ∀ (i : grid0.Coords) (t : Fin k0_t1_loop.trips), t.val ≠ 0 → k0_off16 i (windowW t.val) = ![row i (t.val - 1), 0] := by
  decide +kernel
theorem off17_eq : ∀ t : Fin k0_t1_loop.trips, t.val ≠ 0 → k0_off17 (drainedW t.val) = ![(slotOf (t.val + 1)).val] := by
  decide +kernel
theorem off19_eq : ∀ i : grid0.Coords, k0_off19 i (windowW 50) = ![row i 49, 0] := by decide +kernel
theorem off20_eq : k0_off20 (drainedW 50) = ![(slotOf 51).val] := by decide +kernel
theorem off21_eq : k0_off21 (drainedW 50) = ![(slotOf 51).val, 0, 0] := by decide +kernel
theorem off1_slot : k0_off1 = ![(slotOf 0).val, 0, 0] := by decide +kernel
theorem off2_row : ∀ i : grid0.Coords, k0_off2 i = ![0, row i 0] := by decide +kernel
theorem off3_slot : k0_off3 = ![(slotOf 0).val] := by decide +kernel

/-! ## The checks -/

theorem chk1_holds : ∀ (i : grid0.Coords) (t : Fin k0_t1_loop.trips),
    k0_chk1 i t (fetchedW t.val) (doneW t.val) (doneW t.val) (drainedW t.val) (windowW t.val) := by decide +kernel
theorem chk2_holds : ∀ t : Fin k0_t1_loop.trips, k0_chk2 (doneW t.val) := by decide +kernel
theorem chk3_holds : ∀ t : Fin k0_t1_loop.trips, k0_chk3 (doneW t.val) := by decide +kernel
theorem chk4_holds : k0_chk4 (drainedW 50) := by decide +kernel
theorem chk5_holds : ∀ i : grid0.Coords, k0_chk5 i (windowW 50) := by decide +kernel

/-! ## The next words -/

/-- The window after the trip's, counted from the tile's first and wrapped at 50. -/
abbrev nextW (w : BitVec 32) : BitVec 32 :=
  Scalar.select (Scalar.cmpi .eq (Scalar.select 1#1 (Scalar.addi w 1#32) w) 50#32) 0#32 (Scalar.select 1#1 (Scalar.addi w 1#32) w)
/-- The window before the trip's, wrapped at 0. -/
abbrev prevW (w : BitVec 32) : BitVec 32 :=
  Scalar.select (Scalar.cmpi .eq (Scalar.select 1#1 (Scalar.subi w 1#32) w) 4294967295#32) 49#32 (Scalar.select 1#1 (Scalar.subi w 1#32) w)
/-- The trip number as the loop's induction word. -/
abbrev tripW (t : Fin k0_t1_loop.trips) : BitVec 32 := Scf.iv 0#32 1#32 t

theorem window_step : ∀ t : Fin k0_t1_loop.trips, nextW (windowW t.val) = windowW (t.val + 1) := by decide +kernel
theorem fetched_step : ∀ (i : grid0.Coords) (t : Fin k0_t1_loop.trips),
    Scalar.select (Scalar.andi (Scalar.andi (Scalar.cmpi .ne (Scalar.addi (windowW t.val) (baseW i)) (Scalar.addi (nextW (windowW t.val)) (baseW i)))
      (Scalar.xori (Scalar.cmpi .sge (tripW t) 49#32) 1#1)) 1#1) (Scalar.addi (fetchedW t.val) 1#32) (fetchedW t.val) = fetchedW (t.val + 1) := by
  decide +kernel
theorem done_step : ∀ (i : grid0.Coords) (t : Fin k0_t1_loop.trips),
    Scalar.select (Scalar.ori (Scalar.cmpi .ne (Scalar.addi (windowW t.val) (baseW i)) (Scalar.addi (nextW (windowW t.val)) (baseW i)))
      (Scalar.cmpi .eq (tripW t) 49#32)) (Scalar.addi (doneW t.val) 1#32) (doneW t.val) = doneW (t.val + 1) := by
  decide +kernel
theorem written_step : ∀ (i : grid0.Coords) (t : Fin k0_t1_loop.trips),
    Scalar.select (Scalar.andi (Scalar.ori (Scalar.cmpi .ne (Scalar.addi (windowW t.val) (baseW i)) (Scalar.addi (nextW (windowW t.val)) (baseW i)))
      (Scalar.cmpi .eq (tripW t) 49#32)) 1#1) (Scalar.addi (doneW t.val) 1#32) (doneW t.val) = doneW (t.val + 1) := by
  decide +kernel
theorem drained_step : ∀ (i : grid0.Coords) (t : Fin k0_t1_loop.trips),
    Scalar.select (Scalar.andi (Scalar.andi (Scalar.cmpi .ne (Scalar.addi (windowW t.val) (baseW i)) (Scalar.addi (prevW (windowW t.val)) (baseW i)))
      (Scalar.xori (Scalar.cmpi .eq (tripW t) 0#32) 1#1)) 1#1) (Scalar.addi (drainedW t.val) 1#32) (drainedW t.val) = drainedW (t.val + 1) := by
  decide +kernel

end Cert.Proof.Pipe

end
-- ==== Proof.Views.lean ====
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

/-! The memrefs of the kernel in normal form (slots by parity, windows by number), and what their contents are: which
entries of the index array a fetched slot holds, and which rows of the table a gathered slot holds. -/

@[expose] public section

set_option maxRecDepth 16384

noncomputable section

namespace Cert.Proof.Pipe

open Cert.KernelIdeal Cert.KernelIdeal.Gen
open Idealize.ShloMosaic

variable {F : FTy → Type}

/-! ## The memrefs, at any offsets -/

abbrev tabV : Memref sig .scVector .hbm S100000x128 .f32 := Memref.whole main_arg1_scv
abbrev idxV : Memref sig .scVector .hbm S1x204800 .i32 := Memref.whole main_v0_scv
abbrev outV : Memref sig .scVector .hbm S204800x128 .f32 := Memref.whole main_v1_scv
abbrev listV : Memref sig .scVector .vmem S2x1x128 .i32 := Memref.whole cc0_scoped0
abbrev rowsV : Memref sig .scVector .vmem S2x128x128 .f32 := Memref.whole cc0_scoped2

abbrev idxAt (o : Fin 2 → ℕ) (h : ∀ a, o a + S1x128.size a ≤ S1x204800.size a) : Memref sig .scVector .hbm S1x128 .i32 :=
  idxV.slice (Rect.unit (s := S1x204800) o S1x128.size h) (fun _ => rfl)
abbrev outAt (o : Fin 2 → ℕ) (h : ∀ a, o a + S128x128.size a ≤ S204800x128.size a) : Memref sig .scVector .hbm S128x128 .f32 :=
  outV.slice (Rect.unit (s := S204800x128) o S128x128.size h) (fun _ => rfl)
abbrev listAt (o : Fin 3 → ℕ) (h : ∀ a, o a + S1x1x128.size a ≤ S2x1x128.size a) : Memref sig .scVector .vmem S1x128 .i32 :=
  (listV.slice (Rect.unit (s := S2x1x128) o S1x1x128.size h) (fun _ => rfl)).squeeze S1x128 squeezes_S1x1x128_S1x128
abbrev rowsAt (o : Fin 3 → ℕ) (h : ∀ a, o a + S1x128x128.size a ≤ S2x128x128.size a) : Memref sig .scVector .vmem S128x128 .f32 :=
  (rowsV.slice (Rect.unit (s := S2x128x128) o S1x128x128.size h) (fun _ => rfl)).squeeze S128x128 squeezes_S1x128x128_S128x128
/-- A slot's list as the indirect copy reads it: the same 128 words, one dimension. -/
abbrev entriesOf (l : Memref sig .scVector .vmem S1x128 .i32) : Memref sig .scVector .vmem S128 .i32 :=
  (l.slice (Rect.unit (s := S1x128) ![0, 0] S1x128.size inb_S1x128_S1x128_0_0) (fun _ => rfl)).squeeze S128 squeezes_S1x128_S128
abbrev tabAll : Memref sig .scVector .hbm S100000x128 .f32 :=
  tabV.slice (Rect.unit (s := S100000x128) ![0, 0] S100000x128.size inb_S100000x128_S100000x128_0_0) (fun _ => rfl)

/-- A semaphore of a pair, at an offset. -/
abbrev cellAt (v : DmaSems sig S2) (o : Fin 1 → ℕ) (h : ∀ a, o a + S1.size a ≤ S2.size a) : DmaSem sig :=
  ((v.slice (Rect.unit (s := S2) o S1.size h)).squeeze S_ squeezes_S1_S_).sem

/-! ## Slots and windows -/

theorem slot_inb3 : ∀ p : Fin 2, ∀ a, (![p.val, 0, 0] : Fin 3 → ℕ) a + S1x1x128.size a ≤ S2x1x128.size a := by decide
theorem slot_inb3r : ∀ p : Fin 2, ∀ a, (![p.val, 0, 0] : Fin 3 → ℕ) a + S1x128x128.size a ≤ S2x128x128.size a := by decide
theorem slot_inb1 : ∀ p : Fin 2, ∀ a, (![p.val] : Fin 1 → ℕ) a + S1.size a ≤ S2.size a := by decide
theorem row_bound (L : grid0.Coords) (n : Fin 50) : row L n.val + 128 ≤ 204800 := by
  have h0 : (L 0).val < 2 := (L 0).isLt
  have h1 : (L 1).val < 16 := (L 1).isLt
  have := n.isLt
  unfold row first; omega
theorem idx_inb (L : grid0.Coords) (n : Fin 50) : ∀ a, (![0, row L n.val] : Fin 2 → ℕ) a + S1x128.size a ≤ S1x204800.size a
  | 0 => by show 0 + 1 ≤ 1; omega
  | 1 => by show row L n.val + 128 ≤ 204800; exact row_bound L n
theorem out_inb (L : grid0.Coords) (n : Fin 50) : ∀ a, (![row L n.val, 0] : Fin 2 → ℕ) a + S128x128.size a ≤ S204800x128.size a
  | 0 => by show row L n.val + 128 ≤ 204800; exact row_bound L n
  | 1 => by show 0 + 128 ≤ 128; omega

abbrev idxWin (L : grid0.Coords) (n : Fin 50) := idxAt ![0, row L n.val] (idx_inb L n)
abbrev outWin (L : grid0.Coords) (n : Fin 50) := outAt ![row L n.val, 0] (out_inb L n)
abbrev listSlot (p : Fin 2) := listAt ![p.val, 0, 0] (slot_inb3 p)
abbrev rowsSlot (p : Fin 2) := rowsAt ![p.val, 0, 0] (slot_inb3r p)
/-- The semaphore of an index fetch into slot `p`. -/
abbrev fetchSem (p : Fin 2) : DmaSem sig := cellAt cc0_scoped1 ![p.val] (slot_inb1 p)
/-- The semaphore of a write-out of slot `p`. -/
abbrev writeSem (p : Fin 2) : DmaSem sig := cellAt cc0_scoped3 ![p.val] (slot_inb1 p)
/-- The semaphore of the gathers. -/
abbrev gatherSem : DmaSem sig := cc0_scoped4.sem

/-! ## Where a window's elements lie -/

theorem emb_outWin0 (L : grid0.Coords) (n : Fin 50) (x : S128x128.Idx) : ((outWin L n).view.emb x 0).val = row L n.val + (x 0).val := by
  show row L n.val + 1 * (x 0).val = _; omega
theorem emb_outWin1 (L : grid0.Coords) (n : Fin 50) (x : S128x128.Idx) : ((outWin L n).view.emb x 1).val = (x 1).val := by
  show 0 + 1 * (x 1).val = _; omega
theorem emb_idxWin1 (L : grid0.Coords) (n : Fin 50) (x : S1x128.Idx) : ((idxWin L n).view.emb x 1).val = row L n.val + (x 1).val := by
  show row L n.val + 1 * (x 1).val = _; omega

/-! ## What the kernel computes -/

/-- The index array's entry `r`. -/
def entryIx (r : Fin 204800) : S1x204800.Idx := fun | 0 => (0 : Fin 1) | 1 => r
/-- The table's element at row `r`, column `c`. -/
def tabIx (r : Fin 100000) (c : Fin 128) : S100000x128.Idx := fun | 0 => r | 1 => c
/-- A word as a row of the table: itself when in range. -/
def rowOfWord (w : BitVec 32) : Fin 100000 := ⟨min w.toNat 99999, by omega⟩

theorem rowOfWord_val {w : BitVec 32} (h : w.toNat < 100000) : (rowOfWord w).val = w.toNat := by
  show min _ _ = _; omega

/-- THE RESULT of the gathers: row `r` is the table's row named by entry `r` of the index array. -/
def gathered (tab : S100000x128.Idx → Elt F .f32) (idx : S1x204800.Idx → Elt F .i32) : S204800x128.Idx → Elt F .f32 :=
  fun y => tab (tabIx (rowOfWord (idx (entryIx (y 0)))) (y 1))

/-! ## What the slots hold -/

/-- Entry `x` of a list, by the two-dimensional slot's index. -/
theorem entriesOf_emb : ∀ x : S128.Idx, (((Rect.unit (s := S1x128) ![0, 0] S1x128.size inb_S1x128_S1x128_0_0).emb
    (Shape.reshapeEquiv (squeezes_S1x128_S128.numel_eq) x)) 1).val = (x 0).val := by decide +kernel

theorem rowMajor_S128 : ∀ k : Fin 128, ((S128.rowMajor.symm (k.cast (show 128 = S128.numel by decide))) 0).val = k.val := by
  decide +kernel

theorem read_entriesOf (l : Memref sig .scVector .vmem S1x128 .i32) (f : l.view.ty.Contents (Elt F)) (x : S128.Idx) :
    (entriesOf l).view.read (Elt F) f x
      = l.view.read (Elt F) f ((Rect.unit (s := S1x128) ![0, 0] S1x128.size inb_S1x128_S1x128_0_0).emb
          (Shape.reshapeEquiv (squeezes_S1x128_S128.numel_eq) x)) := rfl

/-- A fetched list's entry, given that the slot holds the index array's window `n`. -/
theorem entry_of_fetched (L : grid0.Coords) (n : Fin 50) (idx : S1x204800.Idx → Elt F .i32)
    (l : Memref sig .scVector .vmem S1x128 .i32) (f : l.view.ty.Contents (Elt F))
    (hf : l.view.read (Elt F) f = (idxWin L n).view.read (Elt F) idx) (x : S128.Idx) (r : Fin 204800) (hr : r.val = row L n.val + (x 0).val) :
    (entriesOf l).view.read (Elt F) f x = idx (entryIx r) := by
  rw [read_entriesOf, hf]
  refine ((View.read_apply _ _).trans (cast_eq _ _)).trans (congrArg idx (funext fun a => ?_))
  match a with
  | 0 => exact Subsingleton.elim (α := Fin 1) _ _
  | 1 => exact Fin.ext ((emb_idxWin1 L n _).trans (by rw [entriesOf_emb]; exact hr.symm))

theorem entry_lt (L : grid0.Coords) (n : Fin 50) (idx : S1x204800.Idx → Elt F .i32) (hidx : ∀ y, (idx y).toNat < 100000)
    (l : Memref sig .scVector .vmem S1x128 .i32) (f : l.view.ty.Contents (Elt F))
    (hf : l.view.read (Elt F) f = (idxWin L n).view.read (Elt F) idx) (x : S128.Idx) :
    ((entriesOf l).view.read (Elt F) f x).toNat < S100000x128.size gathers_S100000x128_S128x128.axis := by
  have hx : (x 0).val < 128 := (x 0).isLt
  rw [entry_of_fetched L n idx l f hf x ⟨row L n.val + (x 0).val, by have := row_bound L n; omega⟩ rfl]
  exact hidx _

/-- A gathered slot holds the result's rows of window `n`. -/
theorem gathered_payload (L : grid0.Coords) (n : Fin 50) (tab : S100000x128.Idx → Elt F .f32) (idx : S1x204800.Idx → Elt F .i32)
    (hidx : ∀ y, (idx y).toNat < 100000) (l : Memref sig .scVector .vmem S1x128 .i32) (f : l.view.ty.Contents (Elt F))
    (hf : l.view.read (Elt F) f = (idxWin L n).view.read (Elt F) idx)
    (hn : S128.numel = S128x128.size gathers_S100000x128_S128x128.axis')
    (hin : ∀ x, ((entriesOf l).view.read (Elt F) f x).toNat < S100000x128.size gathers_S100000x128_S128x128.axis) :
    SparseCore.gatherPayload gathers_S100000x128_S128x128 (tabAll.view.read (Elt F) tab)
        (SparseCore.rows ((entriesOf l).view.read (Elt F) f) hn hin)
      = (outWin L n).view.read (Elt F) (gathered tab idx) := by
  funext x
  have hx : (x 0).val < 128 := (x 0).isLt
  have hb := row_bound L n
  refine Eq.trans ?_ ((View.read_apply _ _).trans (cast_eq _ _)).symm
  show tabAll.view.read (Elt F) tab (gathers_S100000x128_S128x128.idx _ x) = _
  refine ((View.read_apply _ _).trans (cast_eq _ _)).trans (congrArg tab (funext fun a => Fin.ext ?_))
  have key : ((entriesOf l).view.read (Elt F) f (S128.rowMajor.symm ((x 0).cast (show 128 = S128.numel by decide))))
      = idx (entryIx ((outWin L n).view.emb x 0)) :=
    entry_of_fetched L n idx l f hf _ _ ((emb_outWin0 L n x).trans (congrArg (row L n.val + ·) (rowMajor_S128 (x 0)).symm))
  match a with
  | 0 =>
    refine Eq.trans (show _ = 0 + 1 * ((entriesOf l).view.read (Elt F) f (S128.rowMajor.symm ((x 0).cast (show 128 = S128.numel by decide)))).toNat from rfl) ?_
    rw [key]
    show _ = (rowOfWord (idx (entryIx ((outWin L n).view.emb x 0)))).val
    rw [rowOfWord_val (hidx _)]; omega
  | 1 =>
    refine Eq.trans (show _ = 0 + 1 * (x 1).val from rfl) ?_
    exact (show 0 + 1 * (x 1).val = (x 1).val by omega).trans (emb_outWin1 L n x).symm

end Cert.Proof.Pipe

end
-- ==== Proof.Steps.lean ====
module

public import proofs.«01_k».proof.Proof.Views

/-! The transfers of one tile, each as one step: what it takes and what it leaves. Every statement is about the memrefs
at whatever offsets the kernel computes, given that these are the normal ones. -/

@[expose] public section

set_option maxRecDepth 16384

noncomputable section

namespace Cert.Proof.Pipe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × Counters

local notation "𝕄" => MT nD τ sig (HIx 1) (Elt F) ℕ UU ℕ

abbrev 𝒱₀ : Variants := Variants.none

abbrev cV (L : grid0.Coords) : Fin τ.nSC := (L 0).castLE hcore0
abbrev jV (L : grid0.Coords) : Fin τ.nSub := (L 1).castLE hsub0
/-- The tile with coordinates `L` on device `d`. -/
abbrev tile (d : Dev nD) (L : grid0.Coords) : Thread nD τ := V d (cV L) (jV L)

abbrev tabLoc (d : Dev nD) : Loc nD τ sig := (SparseCore.T d).loc main_arg1
abbrev idxLoc (d : Dev nD) : Loc nD τ sig := (SparseCore.T d).loc main_v0
abbrev outLoc (d : Dev nD) : Loc nD τ sig := (SparseCore.T d).loc main_v1

section

variable (d : Dev nD) (L : grid0.Coords)

/-! ## What a tile holds -/

/-- The index array's window `n`. -/
abbrev idxPts (idx : Buf (Elt F) (idxLoc d)) (n : Fin 50) : sProp 𝕄 :=
  (idxWin L n).view.loc (tile d L) ↦[(idxWin L n).view.set]{fullShare} idx
/-- The output array's window `n`. -/
abbrev outPts (out : Buf (Elt F) (outLoc d)) (n : Fin 50) : sProp 𝕄 :=
  (outWin L n).view.loc (tile d L) ↦[(outWin L n).view.set]{fullShare} out
/-- A list slot, at any contents. -/
abbrev listFree (p : Fin 2) : sProp 𝕄 := iprop(∃ f, (listSlot p).view.loc (tile d L) ↦[(listSlot p).view.set]{fullShare} f)
/-- A list slot holding window `n` of the index array. -/
abbrev listHas (idx : Buf (Elt F) (idxLoc d)) (p : Fin 2) (n : Fin 50) : sProp 𝕄 :=
  iprop(∃ f, ⌜(listSlot p).view.read (Elt F) f = (idxWin L n).view.read (Elt F) idx⌝
    ∗ (listSlot p).view.loc (tile d L) ↦[(listSlot p).view.set]{fullShare} f)
/-- A row slot, at any contents. -/
abbrev rowsFree (p : Fin 2) : sProp 𝕄 := iprop(∃ f, (rowsSlot p).view.loc (tile d L) ↦[(rowsSlot p).view.set]{fullShare} f)
/-- A row slot holding window `n` of the result `res`. -/
abbrev rowsHas (res : Buf (Elt F) (outLoc d)) (p : Fin 2) (n : Fin 50) : sProp 𝕄 :=
  iprop(∃ f, ⌜(rowsSlot p).view.read (Elt F) f = (outWin L n).view.read (Elt F) res⌝
    ∗ (rowsSlot p).view.loc (tile d L) ↦[(rowsSlot p).view.set]{fullShare} f)
/-- A share of the table. -/
abbrev tabPts (q : PosShare TreeShare) (tab : Buf (Elt F) (tabLoc d)) : sProp 𝕄 :=
  tabAll.view.loc (tile d L) ↦[tabAll.view.set]{q} tab
/-- A cell of the tile at zero. -/
abbrev idle (s : DmaSem sig) : sProp 𝕄 := semVal (tile d L, SemLoc.dma s) 0

/-- The index fetch of window `n` into slot `p`, under way. -/
abbrev Fetching (idx : Buf (Elt F) (idxLoc d)) (p : Fin 2) (n : Fin 50) : sProp 𝕄 :=
  Transfers.Flight countersEmb (tile d L) (.dma (fetchSem p)) (default : HIx 1) (listSlot p).view.dmaCredit
    iprop(listHas d L idx p n ∗ idxPts d L idx n)
/-- The write-out of window `n` from slot `p`, under way. -/
abbrev Writing (res : Buf (Elt F) (outLoc d)) (p : Fin 2) (n : Fin 50) : sProp 𝕄 :=
  Transfers.Flight countersEmb (tile d L) (.dma (writeSem p)) (default : HIx 1) (outWin L n).view.dmaCredit
    iprop(outPts d L res n ∗ rowsFree d L p)

/-- What the tile owes, with the waits it has made of its own. -/
abbrev Owing (O : CellTallies nD τ sig (HIx 1)) (W : Waits sig (HIx 1)) : sProp 𝕄 :=
  iprop(∃ W', ⌜∀ p ∈ W', p ∈ W ∨ p.2 = none⌝ ∗ owes (tile d L) O W')
abbrev Evidence (O : CellTallies nD τ sig (HIx 1)) : sProp 𝕄 := Transfers.MayWaits (tile d L) (default : HIx 1) O

variable [FloatOps F]

abbrev wpT {α : Type} (p : Prog (TpuEff nD τ sig (Elt F) Λ₀ (tile d L).2) α) (Q : α → sProp 𝕄) : sProp 𝕄 :=
  wp frame (wpE (defs₀ (F := F)) 𝒱₀ (tile d L) none) Set.univ p Q

/-- Elements written through a view with what it reads of `res` hold `res`. -/
theorem pts_of_written (c : Thread nD τ) {sp : Space} {s : Shape} {e : EltTy} (v : View sig c.2.kind sp s e)
    (f res : Buf (Elt F) (v.loc c)) (w : s.Idx → Elt F e) (hw : w = v.read (Elt F) res) :
    (v.loc c ↦[v.set]{fullShare} v.write (Elt F) f w Finset.univ : sProp 𝕄) = v.loc c ↦[v.set]{fullShare} res :=
  pointsTo_congr fun i hi => by
    obtain ⟨x, -, rfl⟩ := Finset.mem_map.mp hi
    rw [View.write_emb_of_mem _ _ (Finset.mem_univ _), hw, View.read_apply, cast_cast, cast_eq]

/-! ## The index fetch -/

theorem fetch_start (idx : Buf (Elt F) (idxLoc d)) (p : Fin 2) (n : Fin 50)
    {o1 : Fin 3 → ℕ} {o2 : Fin 2 → ℕ} {o3 : Fin 1 → ℕ} {h1 h2 h3}
    (e1 : o1 = ![p.val, 0, 0]) (e2 : o2 = ![0, row L n.val]) (e3 : o3 = ![p.val])
    {w1 : (idxAt o2 h2).view.WordExact} {w2 : (listAt o1 h1).view.WordExact} {w3} :
    iprop(idxPts d L idx n ∗ listFree d L p ∗ idle d L (fetchSem p))
      ⊢ wpT d L (Prog.lift (.enqueueDma (idxAt o2 h2) (.here (listAt o1 h1)) (.dma (cellAt cc0_scoped1 o3 h3)) w1 w2 w3))
          fun _ => Fetching d L idx p n := by
  subst e1 e2 e3
  iintro ⟨Hi, ⟨%f, Hl⟩, Hs⟩
  iapply (Transfers.wp_dmaLocal countersEmb 𝒱₀ (tile d L) none (src := idxWin L n) (dst := listSlot p) (default : HIx 1)
    (listSlot p).view.dmaCredit rfl (View.dmaCredit_pos _ (by decide)) subset_rfl) $$ [Hi Hl Hs]
  · isplitl [Hi]; · iexact Hi
    isplitl [Hl]; · iexact Hl
    iexact Hs
  iintro Hfl
  rw [wp_ret]; imodintro
  iapply (Transfers.Flight_mono countersEmb (tile d L) (sep_mono_left (by
    iintro H
    iexists _
    isplitr
    swap; · iexact H
    ipureintro
    exact View.read_write_univ _ _))) $$ Hfl

theorem fetch_wait (idx : Buf (Elt F) (idxLoc d)) (p : Fin 2) (n : Fin 50) (O : CellTallies nD τ sig (HIx 1)) (W : Waits sig (HIx 1))
    {o1 : Fin 3 → ℕ} {o2 : Fin 2 → ℕ} {o3 : Fin 1 → ℕ} {h1 h2 h3}
    (e1 : o1 = ![p.val, 0, 0]) (e3 : o3 = ![p.val])
    {w1 : (idxAt o2 h2).view.WordExact} {w2 : (listAt o1 h1).view.WordExact} :
    iprop(Evidence d L O ∗ Owing d L O W ∗ Fetching d L idx p n)
      ⊢ wpT d L (Prog.lift (.waitDma2 (cellAt cc0_scoped1 o3 h3) (idxAt o2 h2) (listAt o1 h1) w1 w2))
          fun _ => iprop(Owing d L O W ∗ listHas d L idx p n ∗ idxPts d L idx n ∗ idle d L (fetchSem p)) := by
  subst e1 e3
  iintro ⟨Hmw, ⟨%W', %hW', HO⟩, Hfl⟩
  iapply (Transfers.wp_waitLocalO countersEmb 𝒱₀ (tile d L) none (default : HIx 1) (rfl : (listSlot p).view.dmaCredit = _)) $$ [Hfl HO Hmw]
  · isplitl [Hfl]; · iexact Hfl
    isplitl [HO]; · iexact HO
    iapply (Transfers.MayWaits.elim (SemLoc.dma (fetchSem p))) $$ Hmw
  iintro ⟨⟨Hl, Hi⟩, Hs, HO⟩
  rw [wp_ret]; imodintro
  isplitl [HO]
  · iexists _; isplitr
    swap; · iexact HO
    ipureintro; intro q hq
    rcases Finset.mem_insert.mp hq with hq | hq
    · exact .inr (hq ▸ rfl)
    · exact hW' q hq
  isplitl [Hl]; · iexact Hl
  isplitl [Hi]; · iexact Hi
  iexact Hs

/-! ## The write-out -/

theorem write_start (res : Buf (Elt F) (outLoc d)) (p : Fin 2) (n : Fin 50)
    {o1 : Fin 3 → ℕ} {o2 : Fin 2 → ℕ} {o3 : Fin 1 → ℕ} {h1 h2 h3}
    (e1 : o1 = ![p.val, 0, 0]) (e2 : o2 = ![row L n.val, 0]) (e3 : o3 = ![p.val])
    {w1 : (rowsAt o1 h1).view.WordExact} {w2 : (outAt o2 h2).view.WordExact} {w3} :
    iprop((∃ f, outPts d L f n) ∗ rowsHas d L res p n ∗ idle d L (writeSem p))
      ⊢ wpT d L (Prog.lift (.enqueueDma (rowsAt o1 h1) (.here (outAt o2 h2)) (.dma (cellAt cc0_scoped3 o3 h3)) w1 w2 w3))
          fun _ => Writing d L res p n := by
  subst e1 e2 e3
  iintro ⟨⟨%f, Ho⟩, ⟨%g, %hg, Hr⟩, Hs⟩
  iapply (Transfers.wp_dmaLocal countersEmb 𝒱₀ (tile d L) none (src := rowsSlot p) (dst := outWin L n) (default : HIx 1)
    (outWin L n).view.dmaCredit rfl (View.dmaCredit_pos _ (by decide)) subset_rfl) $$ [Ho Hr Hs]
  · isplitl [Hr]; · iexact Hr
    isplitl [Ho]; · iexact Ho
    iexact Hs
  iintro Hfl
  rw [wp_ret]; imodintro
  iapply (Transfers.Flight_mono countersEmb (tile d L) (BI.sep_mono (Entails.of_eq (pts_of_written (tile d L) (outWin L n).view f res _ hg))
    (show ((rowsSlot p).view.loc (tile d L) ↦[(rowsSlot p).view.set]{fullShare} g : sProp 𝕄) ⊢ rowsFree d L p by
      iintro H; iexists _; iexact H))) $$ Hfl

theorem write_wait (res : Buf (Elt F) (outLoc d)) (p : Fin 2) (n : Fin 50) (O : CellTallies nD τ sig (HIx 1)) (W : Waits sig (HIx 1))
    {o1 : Fin 3 → ℕ} {o2 : Fin 2 → ℕ} {o3 : Fin 1 → ℕ} {h1 h2 h3}
    (e2 : o2 = ![row L n.val, 0]) (e3 : o3 = ![p.val])
    {w1 : (rowsAt o1 h1).view.WordExact} {w2 : (outAt o2 h2).view.WordExact} :
    iprop(Evidence d L O ∗ Owing d L O W ∗ Writing d L res p n)
      ⊢ wpT d L (Prog.lift (.waitDma2 (cellAt cc0_scoped3 o3 h3) (rowsAt o1 h1) (outAt o2 h2) w1 w2))
          fun _ => iprop(Owing d L O W ∗ outPts d L res n ∗ rowsFree d L p ∗ idle d L (writeSem p)) := by
  subst e2 e3
  iintro ⟨Hmw, ⟨%W', %hW', HO⟩, Hfl⟩
  iapply (Transfers.wp_waitLocalO countersEmb 𝒱₀ (tile d L) none (default : HIx 1) (rfl : (outWin L n).view.dmaCredit = _)) $$ [Hfl HO Hmw]
  · isplitl [Hfl]; · iexact Hfl
    isplitl [HO]; · iexact HO
    iapply (Transfers.MayWaits.elim (SemLoc.dma (writeSem p))) $$ Hmw
  iintro ⟨⟨Ho, Hr⟩, Hs, HO⟩
  rw [wp_ret]; imodintro
  isplitl [HO]
  · iexists _; isplitr
    swap; · iexact HO
    ipureintro; intro q hq
    rcases Finset.mem_insert.mp hq with hq | hq
    · exact .inr (hq ▸ rfl)
    · exact hW' q hq
  isplitl [Ho]; · iexact Ho
  isplitl [Hr]; · iexact Hr
  iexact Hs

/-! ## The gather and its wait -/

theorem rowCredit : ∀ (p : Fin 2) (h : S100000x128.Gathers 0 S128x128),
    ∑ j, ((rowsSlot p).slice (S128x128.rowRect h.axis' j) (S128x128.stride_rowRect h.axis' j)).view.dmaCredit
      = (rowsSlot p).view.dmaCredit := by decide

theorem set_entriesOf (p : Fin 2) : (entriesOf (listSlot p)).view.set = (listSlot p).view.set := by
  refine (View.set_reshape _ _).trans ((View.set_slice _ _).trans ?_)
  unfold View.set
  congr 1

set_option maxHeartbeats 1000000 in
theorem gather_step (q : PosShare TreeShare) (tab : Buf (Elt F) (tabLoc d)) (idx : Buf (Elt F) (idxLoc d)) (hidx : ∀ y, (idx y).toNat < 100000)
    (p : Fin 2) (n : Fin 50) (O : CellTallies nD τ sig (HIx 1)) (W : Waits sig (HIx 1))
    {o1 o2 : Fin 3 → ℕ} {h1 h2} (e1 : o1 = ![p.val, 0, 0]) (e2 : o2 = ![p.val, 0, 0])
    {a1 a2 a3 a4 a5 a6 w1 w2} {α : Type} (k : PUnit → Prog (TpuEff nD τ sig (Elt F) Λ₀ (tile d L).2) α) (Q : α → sProp 𝕄) :
    iprop(Evidence d L O ∗ Owing d L O W ∗ tabPts d L q tab ∗ rowsFree d L p ∗ listHas d L idx p n ∗ idle d L gatherSem)
      ⊢ iprop((iprop(Owing d L O W ∗ tabPts d L q tab ∗ rowsHas d L (gathered tab idx) p n ∗ listFree d L p ∗ idle d L gatherSem)
            -∗ wpT d L (k ⟨⟩) Q)
          -∗ wpT d L (SparseCore.enqueueIndirectGather a1 tabAll (rowsAt o1 h1) gathers_S100000x128_S128x128 (entriesOf (listAt o2 h2)) a2
              gatherSem a3 a4 a5 a6 >>= fun _ =>
            SparseCore.waitIndirectGather gatherSem tabAll (rowsAt o1 h1) w1 w2 >>= k) Q) := by
  subst e1 e2
  iintro ⟨Hmw, ⟨%W', %hW', HO⟩, Ht, ⟨%fr, Hr⟩, ⟨%fl, %hfl, Hl⟩, Hs⟩ Hk
  have hin := entry_lt L n idx hidx (listSlot p) fl hfl
  ihave Hl' := (Entails.of_eq (show ((listSlot p).view.loc (tile d L) ↦[(listSlot p).view.set]{fullShare} fl : sProp 𝕄)
      = (entriesOf (listSlot p)).view.loc (tile d L) ↦[(entriesOf (listSlot p)).view.set]{fullShare} fl by rw [set_entriesOf])) $$ Hl
  iapply (SparseCore.wp_indirectGatherLocal countersEmb 𝒱₀ (tile d L) none (hg := gathers_S100000x128_S128x128) (default : HIx 1)
      (rowsSlot p).view.dmaCredit (rowCredit p _) (by decide) hin) $$ [Ht Hr Hl' Hs]
  · isplitl [Ht]; · iexact Ht
    isplitl [Hr]; · iexact Hr
    isplitl [Hl']; · iexact Hl'
    iexact Hs
  iintro Hfl
  rw [show (SparseCore.waitIndirectGather (p := (tile d L).2) gatherSem tabAll (rowsAt ![p.val, 0, 0] h1) w1 w2 >>= k
      : Prog (TpuEff nD τ sig (Elt F) Λ₀ (tile d L).2) α)
    = .op (.waitDma2 gatherSem tabAll (rowsAt ![p.val, 0, 0] h1) w1 w2) k from rfl]
  iapply (Transfers.wp_waitLocalO countersEmb 𝒱₀ (tile d L) none (default : HIx 1) (rfl : (rowsSlot p).view.dmaCredit = _)) $$ [Hfl HO Hmw]
  · isplitl [Hfl]; · iexact Hfl
    isplitl [HO]; · iexact HO
    iapply (Transfers.MayWaits.elim (SemLoc.dma gatherSem)) $$ Hmw
  iintro ⟨⟨Hr, Ht, Hl⟩, Hs, HO⟩
  iapply Hk
  isplitl [HO]
  · iexists _; isplitr
    swap; · iexact HO
    ipureintro; intro q hq
    rcases Finset.mem_insert.mp hq with hq | hq
    · exact .inr (hq ▸ rfl)
    · exact hW' q hq
  isplitl [Ht]; · iexact Ht
  isplitl [Hr]
  · iexists _; isplitr
    swap; · iexact Hr
    ipureintro
    exact (View.read_write_univ _ _).trans (gathered_payload L n tab idx hidx (listSlot p) fl hfl _ _)
  isplitl [Hl]
  · iexists fl
    iapply (Entails.of_eq (show ((entriesOf (listSlot p)).view.loc (tile d L) ↦[(entriesOf (listSlot p)).view.set]{fullShare} fl : sProp 𝕄)
      = (listSlot p).view.loc (tile d L) ↦[(listSlot p).view.set]{fullShare} fl by rw [set_entriesOf])) $$ Hl
  iexact Hs

end

end Cert.Proof.Pipe

end
-- ==== Proof.Loop.lean ====
module

public import proofs.«01_k».proof.Proof.Steps

/-! The pipeline's loop: what a tile holds at the start of every trip, and one trip of it. At trip `t` the fetch of
window `t` is under way, and from the second trip on so is the write-out of window `t - 1`. -/

@[expose] public section

set_option maxRecDepth 16384

noncomputable section

namespace Cert.Proof.Pipe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Taking one window out of a family. -/
theorem bigSep_take {p q : Fin 50 → Prop} [DecidablePred p] [DecidablePred q] (Φ : Fin 50 → sProp 𝕄) (k : Fin 50) (hk : p k)
    (hq : ∀ n, q n ↔ p n ∧ n ≠ k) :
    bigSep (Finset.univ.filter p) Φ = iprop(Φ k ∗ bigSep (Finset.univ.filter q) Φ) := by
  rw [SparseCore.bigSep_erase' (show k ∈ Finset.univ.filter p by simpa using hk)]
  congr 2
  ext n
  simp only [Finset.mem_erase, Finset.mem_filter, Finset.mem_univ, true_and, hq, and_comm]

theorem bigSep_same {p q : Fin 50 → Prop} [DecidablePred p] [DecidablePred q] (Φ Ψ : Fin 50 → sProp 𝕄)
    (hq : ∀ n, q n ↔ p n) (hΦ : ∀ n, p n → Φ n = Ψ n) :
    bigSep (Finset.univ.filter p) Φ = bigSep (Finset.univ.filter q) Ψ := by
  rw [show Finset.univ.filter q = Finset.univ.filter p from Finset.filter_congr fun n _ => hq n]
  exact bigSep_congr fun n hn => hΦ n (Finset.mem_filter.mp hn).2

theorem slotOf_add_two (t : ℕ) : slotOf (t + 2) = slotOf t := Fin.ext (Nat.add_mod_right t 2)
theorem slotOf_pred {t : ℕ} (h : t ≠ 0) : slotOf (t - 1) = slotOf (t + 1) := Fin.ext (by
  show (t - 1) % 2 = (t + 1) % 2; omega)

section

variable (d : Dev nD) (L : grid0.Coords) (tab : Buf (Elt F) (tabLoc d)) (idx : Buf (Elt F) (idxLoc d)) (q : PosShare TreeShare)
variable (O : CellTallies nD τ sig (HIx 1)) (W : Waits sig (HIx 1))

/-! ## The state of the slots and windows -/

/-- The list slot of window `s`: its fetch under way, or, past the last window, free. -/
def listSt (s : ℕ) : sProp 𝕄 :=
  if h : s < 50 then Fetching d L idx (slotOf s) ⟨s, h⟩ else iprop(listFree d L (slotOf s) ∗ idle d L (fetchSem (slotOf s)))
/-- A row slot that waits to be written out from trip `t`'s predecessor: its write-out under way, or, at the first trip, free. -/
def rowsSt (t : ℕ) : sProp 𝕄 :=
  if h : 0 < t ∧ t ≤ 50 then Writing d L (gathered tab idx) (slotOf (t + 1)) ⟨t - 1, by omega⟩
  else iprop(rowsFree d L (slotOf (t + 1)) ∗ idle d L (writeSem (slotOf (t + 1))))
/-- A window of the output array before trip `t`: written, or still at any contents. -/
def outSt (t : ℕ) (n : Fin 50) : sProp 𝕄 :=
  if n.val < t then outPts d L (gathered tab idx) n else iprop(∃ f, outPts d L f n)

/-- The index array's windows not lent to a fetch at trip `t`. -/
def idxRest (t : ℕ) : sProp 𝕄 := bigSep (Finset.univ.filter fun n : Fin 50 => n.val ≠ t) (idxPts d L idx)
/-- The same without the next trip's. -/
def idxMid (t : ℕ) : sProp 𝕄 := bigSep (Finset.univ.filter fun n : Fin 50 => n.val ≠ t ∧ n.val ≠ t + 1) (idxPts d L idx)
/-- The output array's windows not lent to a write-out at trip `t`. -/
def outRest (t : ℕ) : sProp 𝕄 := bigSep (Finset.univ.filter fun n : Fin 50 => n.val + 1 ≠ t) (outSt d L tab idx t)
/-- The same without the trip's own. -/
def outMid (t : ℕ) : sProp 𝕄 := bigSep (Finset.univ.filter fun n : Fin 50 => n.val + 1 ≠ t ∧ n.val ≠ t) (outSt d L tab idx t)

theorem idxRest_split (t : ℕ) (h : t + 1 < 50) :
    idxRest d L idx t = iprop(idxPts d L idx ⟨t + 1, h⟩ ∗ idxMid d L idx t) :=
  bigSep_take _ ⟨t + 1, h⟩ (by show t + 1 ≠ t; omega) fun n => and_congr_right' (by rw [Ne, Ne, Fin.ext_iff])
theorem idxRest_last (t : ℕ) (h : ¬ t + 1 < 50) : idxRest d L idx t = idxMid d L idx t :=
  bigSep_same _ _ (fun n => ⟨fun hn => hn.1, fun hn => ⟨hn, by have := n.isLt; omega⟩⟩) fun _ _ => rfl
theorem idxRest_next (t : ℕ) (h : t < 50) :
    idxRest d L idx (t + 1) = iprop(idxPts d L idx ⟨t, h⟩ ∗ idxMid d L idx t) :=
  bigSep_take _ ⟨t, h⟩ (by show t ≠ t + 1; omega) fun n => by rw [and_comm]; exact and_congr_right' (by rw [Ne, Ne, Fin.ext_iff])
theorem outRest_split (t : ℕ) (h : t < 50) :
    outRest d L tab idx t = iprop((∃ f, outPts d L f ⟨t, h⟩) ∗ outMid d L tab idx t) := by
  unfold outRest
  rw [bigSep_take (q := fun n : Fin 50 => n.val + 1 ≠ t ∧ n.val ≠ t) _ ⟨t, h⟩ (by show t + 1 ≠ t; omega)
    fun n => and_congr_right' (by rw [Ne, Ne, Fin.ext_iff])]
  unfold outMid
  rw [show outSt d L tab idx t ⟨t, h⟩ = iprop(∃ f, outPts d L f ⟨t, h⟩) from if_neg (lt_irrefl t)]
theorem outSt_next (t : ℕ) (n : Fin 50) (h : n.val ≠ t) : outSt d L tab idx (t + 1) n = outSt d L tab idx t n := by
  unfold outSt
  exact if_congr (by omega) rfl rfl
theorem outRest_next (t : ℕ) (h0 : t ≠ 0) (h : t ≤ 50) :
    outRest d L tab idx (t + 1) = iprop(outPts d L (gathered tab idx) ⟨t - 1, by omega⟩ ∗ outMid d L tab idx t) := by
  unfold outRest
  rw [bigSep_take (q := fun n : Fin 50 => n.val + 1 ≠ t ∧ n.val ≠ t) _ ⟨t - 1, by omega⟩ (by show t - 1 + 1 ≠ t + 1; omega)
    fun n => by
      have e : n ≠ ⟨t - 1, by omega⟩ ↔ n.val ≠ t - 1 := not_congr Fin.ext_iff
      rw [e]; omega]
  unfold outMid
  rw [show outSt d L tab idx (t + 1) ⟨t - 1, by omega⟩ = outPts d L (gathered tab idx) ⟨t - 1, by omega⟩ from
    if_pos (show t - 1 < t + 1 by omega)]
  rw [bigSep_same (outSt d L tab idx (t + 1)) (outSt d L tab idx t) (fun n => Iff.rfl) fun n hn => outSt_next d L tab idx t n hn.2]
theorem outRest_first : outRest d L tab idx (0 + 1) = outMid d L tab idx 0 :=
  bigSep_same _ _ (fun n => by constructor <;> intro hn <;> omega) fun n hn => outSt_next d L tab idx 0 n (by omega)

/-- What a tile holds at the start of trip `t`, with the words it carries. -/
def Inv (t : ℕ) (acc : BitVec 32 × BitVec 32 × BitVec 32 × BitVec 32 × BitVec 32) : sProp 𝕄 :=
  iprop(⌜acc = wordsAt t⌝ ∗ Evidence d L O ∗ Owing d L O W ∗ tabPts d L q tab ∗ idle d L gatherSem
    ∗ (listSt d L idx t ∗ listFree d L (slotOf (t + 1)) ∗ idle d L (fetchSem (slotOf (t + 1)))) ∗ idxRest d L idx t
    ∗ (rowsFree d L (slotOf t) ∗ idle d L (writeSem (slotOf t)) ∗ rowsSt d L tab idx t) ∗ outRest d L tab idx t)

variable [FloatOps F]

/-! ## The stages of a trip

Each is stated with the program that follows it, `X`: a conditional transfer ends in the same rest on both sides. -/

/-- A side condition that holds. -/
theorem check_step {P : Prop} {dec : Decidable P} (h : P) {α : Type} {Q : α → sProp 𝕄}
    {k : PLift P → Prog (TpuEff nD τ sig (Elt F) Λ₀ (tile d L).2) α} :
    wpT d L (k ⟨h⟩) Q ⊢ wpT d L (Prog.lift (.assume P dec) >>= k) Q :=
  wp_assume 𝒱₀ (tile d L) none Set.univ h

/-- A program that is over. -/
theorem over_step {α : Type} (a : α) {Q : α → sProp 𝕄} : Q a ⊢ wpT d L (pure a) Q := by
  show _ ⊢ wp _ _ _ (pure a) _
  rw [wp_pure]
  iintro H; imodintro; iexact H

/-- One operation and the program after it. -/
theorem then_step {β α : Type} {A : Prog (TpuEff nD τ sig (Elt F) Λ₀ (tile d L).2) β} {R : sProp 𝕄} {Q : α → sProp 𝕄}
    {k : β → Prog (TpuEff nD τ sig (Elt F) Λ₀ (tile d L).2) α} {P : β → sProp 𝕄} (hA : R ⊢ wpT d L A P) :
    R ⊢ iprop((∀ a, P a -∗ wpT d L (k a) Q) -∗ wpT d L (A >>= k) Q) := by
  show _ ⊢ iprop(_ -∗ wp _ _ _ (A >>= k) _)
  rw [wp_bind]
  exact hA.trans (wp_wand frame (wpE (defs₀ (F := F)) 𝒱₀ (tile d L) none) Set.univ)

/-- The fetch of the next window, where there is one. -/
theorem fetch_stage (t : ℕ) (ht : t < 50) {c : Prop} [Decidable c] (hc : c ↔ t < 49)
    {A : c → Prog (TpuEff nD τ sig (Elt F) Λ₀ (tile d L).2) PUnit} {α : Type} {X : Prog (TpuEff nD τ sig (Elt F) Λ₀ (tile d L).2) α}
    {Q : α → sProp 𝕄}
    (hA : ∀ (h : c) (h' : t + 1 < 50), iprop(idxPts d L idx ⟨t + 1, h'⟩ ∗ listFree d L (slotOf (t + 1)) ∗ idle d L (fetchSem (slotOf (t + 1))))
      ⊢ wpT d L (A h) fun _ => Fetching d L idx (slotOf (t + 1)) ⟨t + 1, h'⟩) :
    iprop(listFree d L (slotOf (t + 1)) ∗ idle d L (fetchSem (slotOf (t + 1))) ∗ idxRest d L idx t)
      ⊢ iprop((iprop(listSt d L idx (t + 1) ∗ idxMid d L idx t) -∗ wpT d L X Q)
          -∗ wpT d L (if h : c then A h >>= fun _ => X else X) Q) := by
  by_cases h : c
  · have h' : t + 1 < 50 := by have := hc.mp h; omega
    rw [dif_pos h, idxRest_split d L idx t h']
    iintro ⟨Hl, Hs, Hi, Hrest⟩ Hk
    iapply (then_step d L (hA h h')) $$ [Hl Hs Hi]
    · isplitl [Hi]; · iexact Hi
      isplitl [Hl]; · iexact Hl
      iexact Hs
    iintro %_ Hf
    iapply Hk
    isplitl [Hf]
    · unfold listSt; rw [dif_pos h']; iexact Hf
    iexact Hrest
  · have h' : ¬ t + 1 < 50 := fun hh => h (hc.mpr (by omega))
    rw [dif_neg h, idxRest_last d L idx t h']
    iintro ⟨Hl, Hs, Hrest⟩ Hk
    iapply Hk
    isplitl [Hl Hs]
    · unfold listSt; rw [dif_neg h']; isplitl [Hl] <;> iassumption
    iexact Hrest

/-- A transfer under a condition that always holds. -/
theorem always_stage {c : Prop} [Decidable c] (hc : c) {A : c → Prog (TpuEff nD τ sig (Elt F) Λ₀ (tile d L).2) PUnit} {α : Type}
    {X : Prog (TpuEff nD τ sig (Elt F) Λ₀ (tile d L).2) α} {Q : α → sProp 𝕄} {R P : sProp 𝕄} (hA : ∀ h : c, R ⊢ wpT d L (A h) fun _ => P) :
    R ⊢ iprop((P -∗ wpT d L X Q) -∗ wpT d L (if h : c then A h >>= fun _ => X else X) Q) := by
  rw [dif_pos hc]
  iintro H Hk
  iapply (then_step d L (hA hc)) $$ H
  iintro %_ HP
  iapply Hk $$ HP

/-- The wait for the previous window's write-out, where there is one. -/
theorem drain_stage (t : ℕ) (ht : t < 50) {c : Prop} [Decidable c] (hc : c ↔ t ≠ 0)
    {A : c → Prog (TpuEff nD τ sig (Elt F) Λ₀ (tile d L).2) PUnit} {α : Type} {X : Prog (TpuEff nD τ sig (Elt F) Λ₀ (tile d L).2) α}
    {Q : α → sProp 𝕄}
    (hA : ∀ (h : c) (h' : t ≠ 0), iprop(Evidence d L O ∗ Owing d L O W ∗ Writing d L (gathered tab idx) (slotOf (t + 1)) ⟨t - 1, by omega⟩)
      ⊢ wpT d L (A h) fun _ => iprop(Owing d L O W ∗ outPts d L (gathered tab idx) ⟨t - 1, by omega⟩
          ∗ rowsFree d L (slotOf (t + 1)) ∗ idle d L (writeSem (slotOf (t + 1))))) :
    iprop(Evidence d L O ∗ Owing d L O W ∗ rowsSt d L tab idx t ∗ outMid d L tab idx t)
      ⊢ iprop((iprop(Owing d L O W ∗ (rowsFree d L (slotOf (t + 1)) ∗ idle d L (writeSem (slotOf (t + 1)))) ∗ outRest d L tab idx (t + 1))
            -∗ wpT d L X Q)
          -∗ wpT d L (if h : c then A h >>= fun _ => X else X) Q) := by
  by_cases h : c
  · have h' : t ≠ 0 := hc.mp h
    rw [dif_pos h, outRest_next d L tab idx t h' ht.le]
    unfold rowsSt
    rw [dif_pos ⟨Nat.pos_of_ne_zero h', ht.le⟩]
    iintro ⟨Hmw, HO, Hw, Hrest⟩ Hk
    iapply (then_step d L (hA h h')) $$ [Hmw HO Hw]
    · isplitl [Hmw]; · iexact Hmw
      isplitl [HO]; · iexact HO
      iexact Hw
    iintro %_ ⟨HO, Ho, Hr, Hs⟩
    iapply Hk
    isplitl [HO]; · iexact HO
    isplitl [Hr Hs]
    · isplitl [Hr]; · iexact Hr
      iexact Hs
    isplitl [Ho]; · iexact Ho
    iexact Hrest
  · have h' : t = 0 := not_not.mp fun hh => h (hc.mpr hh)
    subst h'
    rw [dif_neg h, outRest_first]
    unfold rowsSt
    rw [dif_neg (by omega)]
    iintro ⟨-, HO, ⟨Hr, Hs⟩, Hrest⟩ Hk
    iapply Hk
    isplitl [HO]; · iexact HO
    isplitl [Hr Hs]
    · isplitl [Hr]; · iexact Hr
      iexact Hs
    iexact Hrest

end

end Cert.Proof.Pipe

end
-- ==== Proof.Trip.lean ====
module

public import proofs.«01_k».proof.Proof.Loop

/-! One trip of the pipeline: the fetch of the next window, the wait for its own, the gather, the write-out, and the
wait for the previous write-out. -/

@[expose] public section

set_option maxRecDepth 16384

noncomputable section

namespace Cert.Proof.Pipe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) (tab : Buf (Elt F) (tabLoc d)) (idx : Buf (Elt F) (idxLoc d)) (q : PosShare TreeShare)
variable (O : CellTallies nD τ sig (HIx 1)) (W : Waits sig (HIx 1))
variable [FloatOps F]

/-- The first part of a trip, with the words it computes. -/
theorem part1_step (t : Fin k0_t1_loop.trips) :
    iprop(listFree d L (slotOf (t.val + 1)) ∗ idle d L (fetchSem (slotOf (t.val + 1))) ∗ idxRest d L idx t.val)
      ⊢ wpT d L (k0_part1 L tabV (Memref.isWhole_whole _) idxV (Memref.isWhole_whole _) outV (Memref.isWhole_whole _)
          listV (Memref.isWhole_whole _) cc0_scoped1 rowsV (Memref.isWhole_whole _) cc0_scoped3 cc0_scoped4 (baseW L) 0#32 1#32 t
          (fetchedW t.val) (doneW t.val) (doneW t.val) (drainedW t.val) (windowW t.val))
        fun r => iprop(⌜r = ⟨chk3_holds t, chk2_holds t, chk1_holds L t, tripW t, Scalar.cmpi .eq (tripW t) 0#32, Scalar.cmpi .eq (tripW t) 49#32,
            Scalar.addi (windowW t.val) (baseW L), Scalar.addi (prevW (windowW t.val)) (baseW L), Scalar.addi (nextW (windowW t.val)) (baseW L),
            fetchedW (t.val + 1),
            Scalar.cmpi .ne (Scalar.addi (windowW t.val) (baseW L)) (Scalar.addi (prevW (windowW t.val)) (baseW L))⟩⌝
          ∗ listSt d L idx (t.val + 1) ∗ idxMid d L idx t.val) := by
  have ht : t.val < 50 := t.isLt.trans_eq trips_eq
  rw [k0_part1_eq_skeleton]
  unfold k0_part1_skel
  iintro H
  iapply (check_step d L (chk3_holds t))
  iapply (check_step d L (chk2_holds t))
  iapply (check_step d L (chk1_holds L t))
  dsimp only
  iapply (fetch_stage d L idx t.val ht (cond1_iff L t) (fun h h' =>
    fetch_start d L idx (slotOf (t.val + 1)) ⟨t.val + 1, h'⟩ (off4_eq t (by omega)) (off5_eq L t (by omega)) (off6_eq t (by omega)))) $$ H
  iintro Hpost
  iapply (over_step d L)
  isplitr
  · ipureintro
    rw [← fetched_step L t]
  iexact Hpost

/-- The second part of a trip: the wait for the window's list, and the gather of its rows. -/
theorem part2_step (hidx : ∀ y, (idx y).toNat < 100000) (t : Fin k0_t1_loop.trips) (ht : t.val < 50)
    {w0 : BitVec 32} {b1 b2 : BitVec 1} {w1 w2 w3 : BitVec 32} {b3 : BitVec 1} :
    iprop(Evidence d L O ∗ Owing d L O W ∗ tabPts d L q tab ∗ idle d L gatherSem ∗ Fetching d L idx (slotOf t.val) ⟨t.val, ht⟩
        ∗ rowsFree d L (slotOf t.val))
      ⊢ wpT d L (k0_part2 L tabV (Memref.isWhole_whole _) idxV (Memref.isWhole_whole _) outV (Memref.isWhole_whole _)
          listV (Memref.isWhole_whole _) cc0_scoped1 rowsV (Memref.isWhole_whole _) cc0_scoped3 cc0_scoped4 t
          (fetchedW t.val) (doneW t.val) (doneW t.val) (drainedW t.val) (windowW t.val) (chk3_holds t) (chk2_holds t) (chk1_holds L t)
          w0 b1 b2 w1 w2 w3 b3)
        fun _ => iprop(Owing d L O W ∗ tabPts d L q tab ∗ idle d L gatherSem
          ∗ (listFree d L (slotOf t.val) ∗ idle d L (fetchSem (slotOf t.val))) ∗ idxPts d L idx ⟨t.val, ht⟩
          ∗ rowsHas d L (gathered tab idx) (slotOf t.val) ⟨t.val, ht⟩) := by
  rw [k0_part2_eq_skeleton]
  unfold k0_part2_skel
  dsimp only
  iintro ⟨#Hmw, HO, Ht, Hg, Hf, Hr⟩
  iapply (always_stage d L (cond2_holds L t) (fun h =>
    fetch_wait d L idx (slotOf t.val) ⟨t.val, ht⟩ O W (off7_eq t) (off9_eq t))) $$ [HO Hf]
  · isplitr; · iexact Hmw
    isplitl [HO]; · iexact HO
    iexact Hf
  iintro ⟨HO, Hl, Hi, Hs⟩
  rw [ite_self]
  iapply (gather_step d L q tab idx hidx (slotOf t.val) ⟨t.val, ht⟩ O W (off10_eq t) (off11_eq t)) $$ [HO Ht Hg Hl Hr]
  · isplitr; · iexact Hmw
    isplitl [HO]; · iexact HO
    isplitl [Ht]; · iexact Ht
    isplitl [Hr]; · iexact Hr
    isplitl [Hl]; · iexact Hl
    iexact Hg
  iintro ⟨HO, Ht, Hr, Hl, Hg⟩
  rw [ite_self]
  iapply (over_step d L)
  isplitl [HO]; · iexact HO
  isplitl [Ht]; · iexact Ht
  isplitl [Hg]; · iexact Hg
  isplitl [Hl Hs]
  · isplitl [Hl]; · iexact Hl
    iexact Hs
  isplitl [Hi]; · iexact Hi
  iexact Hr

/-- One trip of the pipeline. -/
theorem trip (hidx : ∀ y, (idx y).toNat < 100000) (t : Fin k0_t1_loop.trips)
    (acc : BitVec 32 × BitVec 32 × BitVec 32 × BitVec 32 × BitVec 32) :
    Inv d L tab idx q O W t.val acc
      ⊢ wpT d L (k0_t1_body L tabV (Memref.isWhole_whole _) idxV (Memref.isWhole_whole _) outV (Memref.isWhole_whole _)
          listV (Memref.isWhole_whole _) cc0_scoped1 rowsV (Memref.isWhole_whole _) cc0_scoped3 cc0_scoped4 (baseW L) t acc)
        (Inv d L tab idx q O W (t.val + 1)) := by
  have ht : t.val < 50 := t.isLt.trans_eq trips_eq
  unfold Inv
  iintro ⟨%hacc, #Hmw, HO, Ht, Hg, ⟨Hf, Hl, Hs⟩, Hi, ⟨Hr, Hw, Hrows⟩, Ho⟩
  subst hacc
  unfold k0_t1_body
  dsimp only [wordsAt]
  iapply (then_step d L (part1_step d L idx t)) $$ [Hl Hs Hi]
  · isplitl [Hl]; · iexact Hl
    isplitl [Hs]; · iexact Hs
    iexact Hi
  iintro %r ⟨%hr, Hf', Hi⟩
  subst hr
  dsimp only
  iapply (then_step d L (part2_step d L tab idx q O W hidx t ht)) $$ [HO Ht Hg Hf Hr]
  · isplitr; · iexact Hmw
    isplitl [HO]; · iexact HO
    isplitl [Ht]; · iexact Ht
    isplitl [Hg]; · iexact Hg
    isplitl [Hf]
    · iapply (Entails.of_eq (show listSt d L idx t.val = Fetching d L idx (slotOf t.val) ⟨t.val, ht⟩ from dif_pos ht)) $$ Hf
    iexact Hr
  iintro %_ ⟨HO, Ht, Hg, Hl, Hi', Hr⟩
  ihave Ho := (Entails.of_eq (outRest_split d L tab idx t.val ht)) $$ Ho
  icases Ho with ⟨Ho', Ho⟩
  iapply (always_stage d L (cond5_holds L t) (fun h =>
    write_start d L (gathered tab idx) (slotOf t.val) ⟨t.val, ht⟩ (off12_eq t) (off13_eq L t) (off14_eq t))) $$ [Ho' Hr Hw]
  · isplitl [Ho']; · iexact Ho'
    isplitl [Hr]; · iexact Hr
    iexact Hw
  iintro Hw
  rw [ite_self]
  iapply (drain_stage d L tab idx O W t.val ht (cond7_iff L t) (fun h h' =>
    write_wait d L (gathered tab idx) (slotOf (t.val + 1)) ⟨t.val - 1, by omega⟩ O W (off16_eq L t h') (off17_eq t h'))) $$ [HO Hrows Ho]
  · isplitr; · iexact Hmw
    isplitl [HO]; · iexact HO
    isplitl [Hrows]; · iexact Hrows
    iexact Ho
  iintro ⟨HO, Hr, Ho⟩
  iapply (over_step d L)
  isplitr
  · ipureintro
    exact congrArg (Prod.mk _) (congr (congrArg Prod.mk (done_step L t)) (congr (congrArg Prod.mk (written_step L t))
      (congr (congrArg Prod.mk (drained_step L t)) (window_step t))))
  isplitr; · iexact Hmw
  isplitl [HO]; · iexact HO
  isplitl [Ht]; · iexact Ht
  isplitl [Hg]; · iexact Hg
  isplitl [Hf' Hl]
  · isplitl [Hf']; · iexact Hf'
    rw [show slotOf (t.val + 1 + 1) = slotOf t.val from slotOf_add_two _]
    iexact Hl
  isplitl [Hi Hi']
  · rw [idxRest_next d L idx t.val ht]
    isplitl [Hi']; · iexact Hi'
    iexact Hi
  isplitl [Hr Hw]
  · icases Hr with ⟨Hr, Hs⟩
    isplitl [Hr]; · iexact Hr
    isplitl [Hs]; · iexact Hs
    unfold rowsSt
    rw [dif_pos ⟨Nat.succ_pos _, ht⟩, show slotOf (t.val + 1 + 1) = slotOf t.val from slotOf_add_two _]
    iexact Hw
  iexact Ho

end Cert.Proof.Pipe

end
-- ==== Proof.Task.lean ====
module

public import proofs.«01_k».proof.Proof.Trip

/-! A tile's whole task over its slots and windows: the first fetch, the fifty trips, and the wait for the last write-out. -/

@[expose] public section

set_option maxRecDepth 16384

noncomputable section

namespace Cert.Proof.Pipe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords) (tab : Buf (Elt F) (tabLoc d)) (idx : Buf (Elt F) (idxLoc d)) (q : PosShare TreeShare)
variable (O : CellTallies nD τ sig (HIx 1)) (W : Waits sig (HIx 1))
variable [FloatOps F]

/-- The tile's own memory and cells between tasks: both slots of each buffer at any contents, every cell at zero. -/
def Fresh : sProp 𝕄 :=
  iprop((listFree d L 0 ∗ idle d L (fetchSem 0)) ∗ (listFree d L 1 ∗ idle d L (fetchSem 1))
    ∗ (rowsFree d L 0 ∗ idle d L (writeSem 0)) ∗ (rowsFree d L 1 ∗ idle d L (writeSem 1)) ∗ idle d L gatherSem)

theorem first_lt : 0 < 50 := by decide
theorem last_lt : 49 < 50 := by decide

/-- The tile's windows of the index array. -/
def IdxWins : sProp 𝕄 := bigSep Finset.univ (idxPts d L idx)
/-- The tile's windows of the output array, at any contents. -/
def OutWins : sProp 𝕄 := bigSep Finset.univ fun n : Fin 50 => iprop(∃ f, outPts (F := F) d L f n)
/-- The tile's windows of the output array, each holding its part of `res`. -/
def OutDone (res : Buf (Elt F) (outLoc d)) : sProp 𝕄 := bigSep Finset.univ (outPts d L res)

theorem idxWins_first : IdxWins d L idx = iprop(idxPts d L idx ⟨0, first_lt⟩ ∗ idxRest d L idx 0) := by
  unfold IdxWins idxRest
  rw [← Finset.filter_true_of_mem (s := (Finset.univ : Finset (Fin 50))) (p := fun _ => True) fun _ _ => trivial]
  exact bigSep_take _ ⟨0, first_lt⟩ trivial fun n => by
    have e : n ≠ ⟨0, first_lt⟩ ↔ n.val ≠ 0 := not_congr Fin.ext_iff
    rw [e, true_and]
theorem idxWins_last : idxRest d L idx 50 = IdxWins d L idx := by
  unfold IdxWins idxRest
  rw [Finset.filter_true_of_mem fun n _ => by have := n.isLt; omega]
theorem outWins_first : OutWins d L = outRest d L tab idx 0 := by
  unfold OutWins outRest
  rw [Finset.filter_true_of_mem fun n _ => by omega]
  exact bigSep_congr fun n _ => (if_neg (Nat.not_lt_zero _)).symm
theorem outDone_last : OutDone d L (gathered tab idx) = iprop(outPts d L (gathered tab idx) ⟨49, last_lt⟩ ∗ outRest d L tab idx 50) := by
  unfold OutDone
  rw [← Finset.filter_true_of_mem (s := (Finset.univ : Finset (Fin 50))) (p := fun _ => True) fun _ _ => trivial,
    bigSep_take (q := fun n : Fin 50 => n.val + 1 ≠ 50) _ ⟨49, last_lt⟩ trivial fun n => by
      have e : n ≠ ⟨49, last_lt⟩ ↔ n.val ≠ 49 := not_congr Fin.ext_iff
      rw [e]; exact ⟨fun h => ⟨trivial, by omega⟩, fun h => by have := h.2; omega⟩]
  unfold outRest
  rw [bigSep_same (outPts d L (gathered tab idx)) (outSt d L tab idx 50) (fun n => Iff.rfl) fun n _ => (if_pos n.isLt).symm]

/-- The start of the task: the fetch of the first window. -/
theorem part3_step :
    iprop(idxPts d L idx ⟨0, first_lt⟩ ∗ listFree d L (slotOf 0) ∗ idle d L (fetchSem (slotOf 0)))
      ⊢ wpT d L (k0_part3 L tabV (Memref.isWhole_whole _) idxV (Memref.isWhole_whole _) outV (Memref.isWhole_whole _)
          listV (Memref.isWhole_whole _) cc0_scoped1 rowsV (Memref.isWhole_whole _) cc0_scoped3 cc0_scoped4)
        fun r => iprop(⌜r = baseW L⌝ ∗ listSt d L idx 0) := by
  rw [k0_part3_eq_skeleton]
  unfold k0_part3_skel
  dsimp only
  iintro H
  iapply (then_step d L (fetch_start d L idx (slotOf 0) ⟨0, first_lt⟩ off1_slot (off2_row L) off3_slot)) $$ H
  iintro %_ H
  iapply (over_step d L)
  isplitr
  · ipureintro; rfl
  iapply (Entails.of_eq (show listSt d L idx 0 = Fetching d L idx (slotOf 0) ⟨0, first_lt⟩ from
    dif_pos first_lt).symm) $$ H

/-- The fifty trips. -/
theorem part4_step (hidx : ∀ y, (idx y).toNat < 100000) :
    Inv d L tab idx q O W 0 (wordsAt 0)
      ⊢ wpT d L (k0_part4 L tabV (Memref.isWhole_whole _) idxV (Memref.isWhole_whole _) outV (Memref.isWhole_whole _)
          listV (Memref.isWhole_whole _) cc0_scoped1 rowsV (Memref.isWhole_whole _) cc0_scoped3 cc0_scoped4 (baseW L))
        fun r => iprop(⌜r = ⟨drainedW 50, windowW 50, chk5_holds L, chk4_holds⟩⌝ ∗ Inv d L tab idx q O W 50 (wordsAt 50)) := by
  rw [k0_part4_eq_skeleton]
  unfold k0_part4_skel
  iintro H
  iapply (Scf.wp_for_bind frame (wpE (defs₀ (F := F)) 𝒱₀ (tile d L) none) Set.univ _ _ _ k0_t1_ok (wordsAt 0) _
    (Inv d L tab idx q O W) (fun t acc => trip d L tab idx q O W hidx t acc)) $$ H
  iintro %acc H
  have e : Scf.trips k0_t1_loop.lb k0_t1_loop.ub k0_t1_loop.st = 50 := trips_eq
  ihave H := (Entails.of_eq (congrArg (Inv d L tab idx q O W · acc) e)) $$ H
  have hw : Inv d L tab idx q O W 50 acc ⊢ iprop(⌜acc = wordsAt 50⌝ ∗ Inv d L tab idx q O W 50 acc) := by
    unfold Inv
    iintro ⟨%h, H⟩
    isplitr
    · ipureintro; exact h
    isplitr
    · ipureintro; exact h
    iexact H
  ihave H := hw $$ H
  icases H with ⟨%hacc, H⟩
  subst hacc
  dsimp only [wordsAt]
  iapply (check_step d L (chk5_holds L))
  iapply (check_step d L chk4_holds)
  iapply (over_step d L)
  isplitr
  · ipureintro; rfl
  iexact H

/-- A tile's task: from its windows and a share of the table, to its windows of the result. -/
theorem task (hidx : ∀ y, (idx y).toNat < 100000) :
    iprop(Evidence d L O ∗ Owing d L O W ∗ tabPts d L q tab ∗ IdxWins d L idx ∗ OutWins d L ∗ Fresh d L)
      ⊢ wpT d L (cc0_gather_kernel L tabV (Memref.isWhole_whole _) idxV (Memref.isWhole_whole _) outV (Memref.isWhole_whole _)
          listV (Memref.isWhole_whole _) cc0_scoped1 rowsV (Memref.isWhole_whole _) cc0_scoped3 cc0_scoped4)
        fun _ => iprop(Owing d L O W ∗ tabPts d L q tab ∗ IdxWins d L idx ∗ OutDone d L (gathered tab idx) ∗ Fresh d L) := by
  rw [cc0_gather_kernel_eq_skeleton, idxWins_first, outWins_first d L tab idx, outDone_last]
  unfold cc0_gather_kernel_skel Fresh
  iintro ⟨#Hmw, HO, Ht, ⟨Hi, Hrest⟩, Ho, ⟨Hl0, Hf0⟩, ⟨Hl1, Hf1⟩, ⟨Hr0, Hw0⟩, ⟨Hr1, Hw1⟩, Hg⟩
  iapply (then_step d L (part3_step d L idx)) $$ [Hi Hl0 Hf0]
  · isplitl [Hi]; · iexact Hi
    isplitl [Hl0]; · iexact Hl0
    iexact Hf0
  iintro %r ⟨%hr, Hf⟩
  subst hr
  iapply (then_step d L (part4_step d L tab idx q O W hidx)) $$ [HO Ht Hg Hf Hl1 Hf1 Hrest Hr0 Hw0 Hr1 Hw1 Ho]
  · unfold Inv
    isplitr
    · ipureintro; rfl
    isplitr; · iexact Hmw
    isplitl [HO]; · iexact HO
    isplitl [Ht]; · iexact Ht
    isplitl [Hg]; · iexact Hg
    isplitl [Hf Hl1 Hf1]
    · isplitl [Hf]; · iexact Hf
      isplitl [Hl1]; · iexact Hl1
      iexact Hf1
    isplitl [Hrest]; · iexact Hrest
    isplitl [Hr0 Hw0 Hr1 Hw1]
    · isplitl [Hr0]; · iexact Hr0
      isplitl [Hw0]; · iexact Hw0
      iapply (Entails.of_eq (show rowsSt d L tab idx 0 = iprop(rowsFree d L (slotOf 1) ∗ idle d L (writeSem (slotOf 1))) from
        dif_neg (by decide)).symm)
      isplitl [Hr1]; · iexact Hr1
      iexact Hw1
    iexact Ho
  iintro %r ⟨%hr, H⟩
  subst hr
  dsimp only
  unfold Inv
  icases H with ⟨-, -, HO, Ht, Hg, ⟨Hl0, Hl1⟩, Hi, ⟨Hr0, Hw0, Hw⟩, Ho⟩
  iapply (then_step d L (write_wait d L (gathered tab idx) (slotOf 51) ⟨49, last_lt⟩ O W (off19_eq L) off20_eq)) $$ [HO Hw]
  · isplitr; · iexact Hmw
    isplitl [HO]; · iexact HO
    iapply (Entails.of_eq (show rowsSt d L tab idx 50 = Writing d L (gathered tab idx) (slotOf 51) ⟨49, last_lt⟩ from
        dif_pos ⟨Nat.zero_lt_succ 49, le_rfl⟩)) $$ Hw
  iintro %_ ⟨HO, Ho', Hr1, Hw1⟩
  iapply (over_step d L)
  isplitl [HO]; · iexact HO
  isplitl [Ht]; · iexact Ht
  isplitl [Hi]
  · iapply (Entails.of_eq ((idxWins_last d L idx).trans (idxWins_first d L idx))) $$ Hi
  isplitl [Ho Ho']
  · isplitl [Ho']; · iexact Ho'
    iexact Ho
  isplitl [Hl0]
  · iapply (Entails.of_eq (show listSt d L idx 50 = iprop(listFree d L (slotOf 50) ∗ idle d L (fetchSem (slotOf 50))) from
        dif_neg (by decide))) $$ Hl0
  isplitl [Hl1]; · iexact Hl1
  isplitl [Hr0 Hw0]
  · isplitl [Hr0]; · iexact Hr0
    iexact Hw0
  isplitl [Hr1 Hw1]
  · isplitl [Hr1]; · iexact Hr1
    iexact Hw1
  iexact Hg

end Cert.Proof.Pipe

end
-- ==== Proof.Tile.lean ====
module

public import proofs.«01_k».proof.Proof.Task
public import Idealize.ShloMosaic.Lib.SparseCore.Quiescent
public import Idealize.ShloMosaic.Lib.SparseCore.Scatter
public import Idealize.ShloMosaic.Lib.StableHlo.Run
public import Idealize.ShloMosaic.Lib.Pipeline.Kit

/-! A tile's task as the launch asks for it: the tile's own buffers cut into their slots, its own semaphores, and the task
between them. -/

@[expose] public section

set_option maxRecDepth 16384

noncomputable section

namespace Cert.Proof.Pipe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The buffers' two slots -/

theorem mem_listSlot (p : Fin 2) (y : S2x1x128.Idx) : y ∈ (listSlot p).view.set ↔ (y 0).val = p.val := by
  rw [show (listSlot p).view.set = (Rect.unit (s := S2x1x128) ![p.val, 0, 0] S1x1x128.size (slot_inb3 p)).set from
    (View.set_reshape _ _).trans ((View.set_slice _ _).trans Finset.map_refl), Rect.mem_set_unit]
  constructor
  · intro h
    have h0 : p.val ≤ (y 0).val ∧ (y 0).val < p.val + 1 := h 0
    omega
  · intro h a
    match a with
    | 0 => show p.val ≤ (y 0).val ∧ (y 0).val < p.val + 1; omega
    | 1 => have : (y 1).val < 1 := (y 1).isLt
           show 0 ≤ (y 1).val ∧ (y 1).val < 0 + 1; omega
    | 2 => have : (y 2).val < 128 := (y 2).isLt
           show 0 ≤ (y 2).val ∧ (y 2).val < 0 + 128; omega

theorem mem_rowsSlot (p : Fin 2) (y : S2x128x128.Idx) : y ∈ (rowsSlot p).view.set ↔ (y 0).val = p.val := by
  rw [show (rowsSlot p).view.set = (Rect.unit (s := S2x128x128) ![p.val, 0, 0] S1x128x128.size (slot_inb3r p)).set from
    (View.set_reshape _ _).trans ((View.set_slice _ _).trans Finset.map_refl), Rect.mem_set_unit]
  constructor
  · intro h
    have h0 : p.val ≤ (y 0).val ∧ (y 0).val < p.val + 1 := h 0
    omega
  · intro h a
    match a with
    | 0 => show p.val ≤ (y 0).val ∧ (y 0).val < p.val + 1; omega
    | 1 => have : (y 1).val < 128 := (y 1).isLt
           show 0 ≤ (y 1).val ∧ (y 1).val < 0 + 128; omega
    | 2 => have : (y 2).val < 128 := (y 2).isLt
           show 0 ≤ (y 2).val ∧ (y 2).val < 0 + 128; omega

/-- A buffer held whole at some contents is its two parts so held, when the parts are told apart by a coordinate `κ`. -/
theorem two_parts {ℓ : Loc nD τ sig} (S : Fin 2 → Finset (Idx ℓ)) (κ : Idx ℓ → ℕ) (hS : ∀ p y, y ∈ S p ↔ κ y = p.val) (hκ : ∀ y, κ y < 2) :
    iprop(∃ f, (ℓ ↦{fullShare} f : sProp 𝕄)) = iprop((∃ f, ℓ ↦[S 0]{fullShare} f) ∗ (∃ f, ℓ ↦[S 1]{fullShare} f)) := by
  have hdis : ∀ p ∈ (Finset.univ : Finset (Fin 2)), ∀ p' ∈ (Finset.univ : Finset (Fin 2)), p ≠ p' → Disjoint (S p) (S p') :=
    fun p _ p' _ h => Finset.disjoint_left.mpr fun y hy hy' => h (Fin.ext (((hS p y).mp hy).symm.trans ((hS p' y).mp hy')))
  have hcov : (Finset.univ : Finset (Fin 2)).biUnion S = Finset.univ := Finset.ext fun y => by
    simp only [Finset.mem_biUnion, Finset.mem_univ, true_and, iff_true]
    exact ⟨⟨κ y, hκ y⟩, (hS _ y).mpr rfl⟩
  have h₁ : iprop(∃ f, (ℓ ↦{fullShare} f : sProp 𝕄)) ⊢ iprop((∃ f, ℓ ↦[S 0]{fullShare} f) ∗ (∃ f, ℓ ↦[S 1]{fullShare} f)) := by
    iintro ⟨%f, H⟩
    ihave H := (show (ℓ ↦{fullShare} f : sProp 𝕄) ⊢ iprop((ℓ ↦[S 0]{fullShare} f) ∗ ℓ ↦[S 1]{fullShare} f) from
      Entails.of_eq ((show (ℓ ↦{fullShare} f : sProp 𝕄) = ℓ ↦[(Finset.univ : Finset (Fin 2)).biUnion S]{fullShare} f by rw [hcov]).trans
      ((pointsTo_biUnion Finset.univ S hdis).trans (BI.bigSep_fin_two _)))) $$ H
    icases H with ⟨H0, H1⟩
    isplitl [H0]; · iexists f; iexact H0
    iexists f; iexact H1
  have h₂ : iprop((∃ f, ℓ ↦[S 0]{fullShare} f) ∗ (∃ f, ℓ ↦[S 1]{fullShare} f)) ⊢ iprop(∃ f, (ℓ ↦{fullShare} f : sProp 𝕄)) := by
    iintro ⟨⟨%f, H0⟩, %g, H1⟩
    ihave H := (show iprop((ℓ ↦[S 0]{fullShare} f) ∗ ℓ ↦[S 1]{fullShare} g)
        ⊢ (bigSep Finset.univ fun p : Fin 2 => (ℓ ↦[S p]{fullShare} (if p = 0 then f else g) : sProp 𝕄)) from
      Entails.of_eq (BI.bigSep_fin_two fun p : Fin 2 => (ℓ ↦[S p]{fullShare} (if p = 0 then f else g) : sProp 𝕄)).symm) $$ [H0 H1]
    · isplitl [H0]; · iexact H0
      iexact H1
    ihave H := (pointsTo_biUnion_join (q := fullShare) Finset.univ S (fun p => if p = 0 then f else g) f hdis) $$ H
    icases H with ⟨%h, -, H⟩
    iexists h
    iapply (Entails.of_eq (show (ℓ ↦[(Finset.univ : Finset (Fin 2)).biUnion S]{fullShare} h : sProp 𝕄) = ℓ ↦{fullShare} h by rw [hcov])) $$ H
  exact BI.Entails.antisymm h₁ h₂

variable (d : Dev nD) (L : grid0.Coords)

theorem list_slots : iprop(∃ f, ((tile d L).loc cc0_scoped0 ↦{fullShare} f : sProp 𝕄)) = iprop(listFree d L 0 ∗ listFree d L 1) :=
  two_parts (ℓ := (tile d L).loc cc0_scoped0) (fun p => (listSlot p).view.set) (fun y : S2x1x128.Idx => (y 0).val) mem_listSlot fun y => (y 0).isLt
theorem rows_slots : iprop(∃ f, ((tile d L).loc cc0_scoped2 ↦{fullShare} f : sProp 𝕄)) = iprop(rowsFree d L 0 ∗ rowsFree d L 1) :=
  two_parts (ℓ := (tile d L).loc cc0_scoped2) (fun p => (rowsSlot p).view.set) (fun y : S2x128x128.Idx => (y 0).val) mem_rowsSlot fun y => (y 0).isLt

/-! ## What the tile owns beyond its slots -/

/-- The tile's other buffers. -/
def otherBufs : sProp 𝕄 :=
  bigSep (((ownRefs (τ := τ) (.scVector (cV L) (jV L))).erase ((Proc.scVector (cV L) (jV L)).devRef cc0_scoped0)).erase
    ((Proc.scVector (cV L) (jV L)).devRef cc0_scoped2)) fun b => iprop(∃ f, ((d, b) : Loc nD τ sig) ↦{fullShare} f)

theorem ownBufs_tile : (ownBufs (tile d L) : sProp 𝕄)
    = iprop((listFree d L 0 ∗ listFree d L 1) ∗ (rowsFree d L 0 ∗ rowsFree d L 1) ∗ otherBufs d L) := by
  rw [← list_slots, ← rows_slots]
  unfold SparseCore.Cfg.ownBufs otherBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e)
      (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- The kernel's five semaphores. -/
def kernelSems : Finset (DmaSem sig) := {fetchSem 0, fetchSem 1, writeSem 0, writeSem 1, gatherSem}
/-- A semaphore of the tile as a cell. -/
def cellOf : DmaSem sig ↪ GSem nD τ sig :=
  ⟨fun s => (tile d L, SemLoc.dma s), fun a b e => by
    have h := congrArg Prod.snd e
    exact SemLoc.dma.inj h⟩
theorem kernelSems_scoped : ∀ s ∈ kernelSems, (SemLoc.dma s : SemLoc sig).isScoped .scVector = true := by decide

/-- The tile's other cells, at zero. -/
def otherCells : sProp 𝕄 := bigSep (ownCells (tile d L) \ kernelSems.map (cellOf d L)) fun g => semVal g 0

theorem ownSems0_tile : (ownSems0 (tile d L) : sProp 𝕄)
    = iprop((idle d L (fetchSem 0) ∗ idle d L (fetchSem 1) ∗ idle d L (writeSem 0) ∗ idle d L (writeSem 1) ∗ idle d L gatherSem) ∗ otherCells d L) := by
  unfold SparseCore.Cfg.ownSems0 otherCells
  have hsub : kernelSems.map (cellOf d L) ⊆ ownCells (tile d L) := fun g hg => by
    obtain ⟨s, hs, rfl⟩ := Finset.mem_map.mp hg
    exact mem_ownCells.mpr ⟨rfl, kernelSems_scoped s hs⟩
  rw [SparseCore.bigSep_sdiff_split' hsub, SparseCore.bigSep_map]
  unfold kernelSems
  rw [SparseCore.bigSep_insert' (by decide), SparseCore.bigSep_insert' (by decide), SparseCore.bigSep_insert' (by decide),
    SparseCore.bigSep_insert' (by decide), bigSep_singleton]
  rfl

/-! ## The launch's names -/

abbrev ΛP : Labels := Pipeline.Sig Λ₀ (Fin 0) fun p => (pcfgs (F := F) p).Adm
abbrev K : SparseCore.Cfg τ sig (ΛP (F := F)) 1 := sc (F := F)
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (tab : Buf (Elt F) (tabLoc d)) (idx : Buf (Elt F) (idxLoc d)) (q : PosShare TreeShare)
variable (O : CellTallies nD τ sig (HIx 1)) (W : Waits sig (HIx 1))
variable [FloatOps F]

/-- The task on the tile with coordinates `L`: from its windows, a share of the table and what it owns. -/
theorem tile_run (hidx : ∀ y, (idx y).toNat < 100000) (hO : ∀ g, O g none = 0) :
    iprop(levAts (K (F := F)).L (K (F := F)).lev ∗ emp ∗ (tabPts d L q tab ∗ IdxWins d L idx ∗ OutWins d L)
        ∗ scopedBufs (tile d L) ∗ scopedSems0 (tile d L) ∗ owes (tile d L) O W)
      ⊢ wpT d L (cc0_gather_kernel L tabV (Memref.isWhole_whole _) idxV (Memref.isWhole_whole _) outV (Memref.isWhole_whole _)
          listV (Memref.isWhole_whole _) cc0_scoped1 rowsV (Memref.isWhole_whole _) cc0_scoped3 cc0_scoped4)
        fun _ => iprop((tabPts d L q tab ∗ IdxWins d L idx ∗ OutDone d L (gathered tab idx))
          ∗ scopedBufs (tile d L) ∗ scopedSems0 (tile d L) ∗ Owing d L O W) := by
  rw [(K (F := F)).scopedBufs_V facts d (cV L) (jV L), SparseCore.Cfg.scopedSems0_V (Val := Elt F) d (cV L) (jV L),
    ownSems0_tile, ownBufs_tile]
  iintro ⟨#Hlv, -, ⟨Ht, Hi, Ho⟩, ⟨⟨Hl0, Hl1⟩, ⟨Hr0, Hr1⟩, Hbufs⟩, ⟨⟨Hf0, Hf1, Hw0, Hw1, Hg⟩, Hcells⟩, HO⟩
  ihave Hmw := (show levAts (K (F := F)).L (K (F := F)).lev ⊢ Evidence d L O from
    (K (F := F)).mayWaits_none (thr := tile d L) hO) $$ Hlv
  have hrun := (task d L tab idx q O W hidx).trans (wp_wand frame (wpE (defs₀ (F := F)) 𝒱₀ (tile d L) none) Set.univ
    (Q' := fun _ => iprop((tabPts d L q tab ∗ IdxWins d L idx ∗ OutDone d L (gathered tab idx))
          ∗ ((listFree d L 0 ∗ listFree d L 1) ∗ (rowsFree d L 0 ∗ rowsFree d L 1) ∗ otherBufs d L)
          ∗ ((idle d L (fetchSem 0) ∗ idle d L (fetchSem 1) ∗ idle d L (writeSem 0) ∗ idle d L (writeSem 1) ∗ idle d L gatherSem) ∗ otherCells d L)
          ∗ Owing d L O W)))
  iapply hrun $$ [Hmw HO Ht Hi Ho Hl0 Hl1 Hr0 Hr1 Hf0 Hf1 Hw0 Hw1 Hg]
  · isplitl [Hmw]; · iexact Hmw
    isplitl [HO]
    · iexists W; isplitr
      · ipureintro; exact fun p hp => .inl hp
      iexact HO
    isplitl [Ht]; · iexact Ht
    isplitl [Hi]; · iexact Hi
    isplitl [Ho]; · iexact Ho
    unfold Fresh
    isplitl [Hl0 Hf0]
    · isplitl [Hl0]; · iexact Hl0
      iexact Hf0
    isplitl [Hl1 Hf1]
    · isplitl [Hl1]; · iexact Hl1
      iexact Hf1
    isplitl [Hr0 Hw0]
    · isplitl [Hr0]; · iexact Hr0
      iexact Hw0
    isplitl [Hr1 Hw1]
    · isplitl [Hr1]; · iexact Hr1
      iexact Hw1
    iexact Hg
  unfold Fresh
  iintro %_ ⟨HO, Ht, Hi, Ho, ⟨Hl0, Hf0⟩, ⟨Hl1, Hf1⟩, ⟨Hr0, Hw0⟩, ⟨Hr1, Hw1⟩, Hg⟩
  isplitl [Ht Hi Ho]
  · isplitl [Ht]; · iexact Ht
    isplitl [Hi]; · iexact Hi
    iexact Ho
  isplitl [Hl0 Hl1 Hr0 Hr1 Hbufs]
  · isplitl [Hl0 Hl1]
    · isplitl [Hl0]; · iexact Hl0
      iexact Hl1
    isplitl [Hr0 Hr1]
    · isplitl [Hr0]; · iexact Hr0
      iexact Hr1
    iexact Hbufs
  isplitl [Hf0 Hf1 Hw0 Hw1 Hg Hcells]
  · isplitl [Hf0 Hf1 Hw0 Hw1 Hg]
    · isplitl [Hf0]; · iexact Hf0
      isplitl [Hf1]; · iexact Hf1
      isplitl [Hw0]; · iexact Hw0
      isplitl [Hw1]; · iexact Hw1
      iexact Hg
    iexact Hcells
  iexact HO

end Cert.Proof.Pipe

end
-- ==== Proof.Deal.lean ====
module

public import proofs.«01_k».proof.Proof.Tile

/-! The three arrays dealt to the tiles: the index array and the output cut into windows, the table into read shares. -/

@[expose] public section

set_option maxRecDepth 16384

noncomputable section

namespace Cert.Proof.Pipe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Arrays cut by a number -/

/-- The tile of SparseCore `c`, subcore `s`. -/
def tileAt (c : Fin 2) (s : Fin 16) : grid0.Coords := fun
  | 0 => c
  | 1 => s
  | ⟨_ + 2, h⟩ => absurd h (Nat.not_lt.2 (Nat.le_add_left _ _))

theorem row_tileAt (c : Fin 2) (s : Fin 16) (n : ℕ) : row (tileAt c s) n = 128 * (50 * (s.val + 16 * c.val) + n) := by
  show 6400 * s.val + 102400 * c.val + 128 * n = _; omega

section Cut

variable {ℓ : Loc nD τ sig} (S : Fin 2 → Fin 16 → Fin 50 → Finset (Idx ℓ)) (κ : Idx ℓ → ℕ)

def subcorePart (c : Fin 2) (s : Fin 16) : Finset (Idx ℓ) := Finset.univ.biUnion (S c s)
def corePart (c : Fin 2) : Finset (Idx ℓ) := Finset.univ.biUnion (subcorePart S c)

theorem mem_subcorePart (hS : ∀ c s n y, y ∈ S c s n ↔ κ y = 50 * (s.val + 16 * c.val) + n.val) (c : Fin 2) (s : Fin 16) (y : Idx ℓ) :
    y ∈ subcorePart S c s ↔ κ y / 50 = s.val + 16 * c.val := by
  unfold subcorePart
  simp only [Finset.mem_biUnion, Finset.mem_univ, true_and, hS]
  constructor
  · rintro ⟨n, hn⟩; have := n.isLt; omega
  · intro h; exact ⟨⟨κ y % 50, by omega⟩, by show _ = _ + κ y % 50; omega⟩

theorem mem_corePart (hS : ∀ c s n y, y ∈ S c s n ↔ κ y = 50 * (s.val + 16 * c.val) + n.val) (c : Fin 2) (y : Idx ℓ) :
    y ∈ corePart S c ↔ κ y / 800 = c.val := by
  unfold corePart
  simp only [Finset.mem_biUnion, Finset.mem_univ, true_and, mem_subcorePart S κ hS]
  constructor
  · rintro ⟨s, hs⟩; have := s.isLt; omega
  · intro h; exact ⟨⟨κ y / 50 % 16, by omega⟩, by show _ = κ y / 50 % 16 + _; omega⟩

/-- An array whose elements are numbered by `κ` below 1600, as its parts one number each. -/
theorem whole_cut (hS : ∀ c s n y, y ∈ S c s n ↔ κ y = 50 * (s.val + 16 * c.val) + n.val) (hκ : ∀ y, κ y < 1600) (f : Buf (Elt F) ℓ) :
    (ℓ ↦{fullShare} f : sProp 𝕄)
      = bigSep Finset.univ fun c => bigSep Finset.univ fun s => bigSep Finset.univ fun n => ℓ ↦[S c s n]{fullShare} f := by
  have hd3 : ∀ c s, ∀ n ∈ (Finset.univ : Finset (Fin 50)), ∀ n' ∈ (Finset.univ : Finset (Fin 50)), n ≠ n' → Disjoint (S c s n) (S c s n') :=
    fun c s n _ n' _ h => Finset.disjoint_left.mpr fun y hy hy' => h (Fin.ext (by
      have h₁ := (hS c s n y).mp hy; have h₂ := (hS c s n' y).mp hy'; omega))
  have hd2 : ∀ c, ∀ s ∈ (Finset.univ : Finset (Fin 16)), ∀ s' ∈ (Finset.univ : Finset (Fin 16)), s ≠ s' →
      Disjoint (subcorePart S c s) (subcorePart S c s') :=
    fun c s _ s' _ h => Finset.disjoint_left.mpr fun y hy hy' => h (Fin.ext (by
      have h₁ := (mem_subcorePart S κ hS c s y).mp hy; have h₂ := (mem_subcorePart S κ hS c s' y).mp hy'; omega))
  have hd1 : ∀ c ∈ (Finset.univ : Finset (Fin 2)), ∀ c' ∈ (Finset.univ : Finset (Fin 2)), c ≠ c' → Disjoint (corePart S c) (corePart S c') :=
    fun c _ c' _ h => Finset.disjoint_left.mpr fun y hy hy' => h (Fin.ext (by
      have h₁ := (mem_corePart S κ hS c y).mp hy; have h₂ := (mem_corePart S κ hS c' y).mp hy'; omega))
  have hcov : (Finset.univ : Finset (Fin 2)).biUnion (corePart S) = Finset.univ := Finset.ext fun y => by
    simp only [Finset.mem_biUnion, Finset.mem_univ, true_and, iff_true, mem_corePart S κ hS]
    have := hκ y
    exact ⟨⟨κ y / 800, by omega⟩, rfl⟩
  refine ((show (ℓ ↦{fullShare} f : sProp 𝕄) = ℓ ↦[(Finset.univ : Finset (Fin 2)).biUnion (corePart S)]{fullShare} f by rw [hcov]).trans
    (pointsTo_biUnion Finset.univ (corePart S) hd1)).trans (bigSep_congr fun c _ => ?_)
  exact (pointsTo_biUnion Finset.univ (subcorePart S c) (hd2 c)).trans
    (bigSep_congr fun s _ => pointsTo_biUnion Finset.univ (S c s) (hd3 c s))

end Cut

/-! ## The windows' elements -/

theorem mem_idxWin (c : Fin 2) (s : Fin 16) (n : Fin 50) (y : S1x204800.Idx) :
    y ∈ (idxWin (tileAt c s) n).view.set ↔ (y 1).val / 128 = 50 * (s.val + 16 * c.val) + n.val := by
  rw [show (idxWin (tileAt c s) n).view.set
      = (Rect.unit (s := S1x204800) ![0, row (tileAt c s) n.val] S1x128.size (idx_inb (tileAt c s) n)).set from
    (View.set_slice _ _).trans Finset.map_refl, Rect.mem_set_unit]
  have hr := row_tileAt c s n.val
  constructor
  · intro h
    have h1 : row (tileAt c s) n.val ≤ (y 1).val ∧ (y 1).val < row (tileAt c s) n.val + 128 := h 1
    omega
  · intro h a
    match a with
    | 0 => have : (y 0).val < 1 := (y 0).isLt
           show 0 ≤ (y 0).val ∧ (y 0).val < 0 + 1; omega
    | 1 => show row (tileAt c s) n.val ≤ (y 1).val ∧ (y 1).val < row (tileAt c s) n.val + 128; omega

theorem mem_outWin (c : Fin 2) (s : Fin 16) (n : Fin 50) (y : S204800x128.Idx) :
    y ∈ (outWin (tileAt c s) n).view.set ↔ (y 0).val / 128 = 50 * (s.val + 16 * c.val) + n.val := by
  rw [show (outWin (tileAt c s) n).view.set
      = (Rect.unit (s := S204800x128) ![row (tileAt c s) n.val, 0] S128x128.size (out_inb (tileAt c s) n)).set from
    (View.set_slice _ _).trans Finset.map_refl, Rect.mem_set_unit]
  have hr := row_tileAt c s n.val
  constructor
  · intro h
    have h0 : row (tileAt c s) n.val ≤ (y 0).val ∧ (y 0).val < row (tileAt c s) n.val + 128 := h 0
    omega
  · intro h a
    match a with
    | 0 => show row (tileAt c s) n.val ≤ (y 0).val ∧ (y 0).val < row (tileAt c s) n.val + 128; omega
    | 1 => have : (y 1).val < 128 := (y 1).isLt
           show 0 ≤ (y 1).val ∧ (y 1).val < 0 + 128; omega

theorem tabAll_set : tabAll.view.set = (Finset.univ : Finset S100000x128.Idx) := by
  rw [show tabAll.view.set
      = (Rect.unit (s := S100000x128) ![0, 0] S100000x128.size inb_S100000x128_S100000x128_0_0).set from
    (View.set_slice _ _).trans Finset.map_refl]
  ext y
  rw [Rect.mem_set_unit]
  simp only [Finset.mem_univ, iff_true]
  intro a
  match a with
  | 0 => have : (y 0).val < 100000 := (y 0).isLt
         show 0 ≤ (y 0).val ∧ (y 0).val < 0 + 100000; omega
  | 1 => have : (y 1).val < 128 := (y 1).isLt
         show 0 ≤ (y 1).val ∧ (y 1).val < 0 + 128; omega

/-! ## The arrays dealt -/

/-- A tile's share of the table. -/
def tabShare (c : Fin 2) (s : Fin 16) : PosShare TreeShare :=
  Idealize.ShloMosaic.pieceOf (Idealize.ShloMosaic.pieceOf fullShare 2 (by decide) c) 16 (by decide) s

variable (d : Dev nD)

theorem idx_dealt (idx : Buf (Elt F) (idxLoc d)) :
    (idxLoc d ↦{fullShare} idx : sProp 𝕄) = bigSep Finset.univ fun c => bigSep Finset.univ fun s => IdxWins d (tileAt c s) idx :=
  whole_cut (ℓ := idxLoc d) (fun c s n => (idxWin (tileAt c s) n).view.set) (fun y : S1x204800.Idx => (y 1).val / 128)
    mem_idxWin (fun y => by have : (y 1).val < 204800 := (y 1).isLt; show (y 1).val / 128 < 1600; omega) idx

theorem out_dealt (out : Buf (Elt F) (outLoc d)) :
    (outLoc d ↦{fullShare} out : sProp 𝕄) = bigSep Finset.univ fun c => bigSep Finset.univ fun s => OutDone d (tileAt c s) out :=
  whole_cut (ℓ := outLoc d) (fun c s n => (outWin (tileAt c s) n).view.set) (fun y : S204800x128.Idx => (y 0).val / 128)
    mem_outWin (fun y => by have : (y 0).val < 204800 := (y 0).isLt; show (y 0).val / 128 < 1600; omega) out

theorem tab_dealt (tab : Buf (Elt F) (tabLoc d)) :
    (tabLoc d ↦{fullShare} tab : sProp 𝕄)
      = bigSep Finset.univ fun c => bigSep Finset.univ fun s => tabPts d (tileAt c s) (tabShare c s) tab := by
  refine (pointsTo_piecesOf Finset.univ tab (o := 2) (by decide) fullShare).trans (bigSep_congr fun c _ => ?_)
  refine (pointsTo_piecesOf Finset.univ tab (o := 16) (by decide) _).trans (bigSep_congr fun s _ => ?_)
  exact congrArg (fun I : Finset S100000x128.Idx => (tabLoc d ↦[I]{tabShare c s} tab : sProp 𝕄)) tabAll_set.symm

/-- A tile's output windows before the run, whatever they hold. -/
theorem outWins_any (L : grid0.Coords) (out : Buf (Elt F) (outLoc d)) : (OutDone d L out : sProp 𝕄) ⊢ OutWins d L := by
  unfold OutDone OutWins
  exact bigSep_mono fun n _ => (show outPts d L out n ⊢ iprop(∃ f, outPts (F := F) d L f n) from by
    iintro H; iexists out; iexact H)

end Cert.Proof.Pipe

end
-- ==== Proof.Launch.lean ====
module

public import proofs.«01_k».proof.Proof.Deal

/-! The whole program: the two reshapes around the one call, the call dealt to the tiles, and the run of all threads. -/

@[expose] public section

set_option maxRecDepth 16384

noncomputable section

namespace Cert.Proof.Pipe

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

abbrev D [FloatOps F] : Defs nD τ sig (Elt F) (ΛP (F := F)) := Pipeline.defs pcfgs defs₀
abbrev EH : Emb UH (MT nD τ sig (HIx 1) (Elt F) ℕ UU ℕ) := embL
theorem nCore_eq : ∀ q, (K (F := F)).nCore q = 2 | 0 => rfl
theorem nSub_eq : ∀ q, (K (F := F)).nSub q = 16 | 0 => rfl

/-! ## The values -/

abbrev argLoc (d : Dev nD) : Loc nD τ sig := (SparseCore.T d).loc main_arg0
abbrev resLoc (d : Dev nD) : Loc nD τ sig := (SparseCore.T d).loc main_v2

/-- The index array as one row. -/
def flatIdx (X : S4096x50.Idx → Elt F .i32) : S1x204800.Idx → Elt F .i32 := shapeCast S1x204800 X shapeCasts_S4096x50_S1x204800
/-- The result, the rows gathered back in the index array's shape. -/
def result (X : S4096x50.Idx → Elt F .i32) (tab : S100000x128.Idx → Elt F .f32) : S4096x50x128.Idx → Elt F .f32 :=
  shapeCast S4096x50x128 (gathered tab (flatIdx X)) shapeCasts_S204800x128_S4096x50x128

variable (m : (ℓ : Loc nD τ sig) → Buf (Elt F) ℓ) (ρ : Dev nD → PrngReg)

abbrev tab₀ (d : Dev nD) : Buf (Elt F) (tabLoc d) := m (tabLoc d)
abbrev idx₀ (d : Dev nD) : Buf (Elt F) (idxLoc d) := flatIdx (F := F) (m (argLoc d))
abbrev out₀ (d : Dev nD) : Buf (Elt F) (outLoc d) := gathered (F := F) (m (tabLoc d)) (idx₀ m d)
abbrev res₀ (d : Dev nD) : Buf (Elt F) (resLoc d) := result (F := F) (m (argLoc d)) (m (tabLoc d))

/-- What the proof asks of the launch memory: the index array's words are rows of the table. -/
def InRange : Prop := ∀ (d : Dev nD) (x : S4096x50.Idx), (m (argLoc d) x : BitVec 32).toNat < 100000

theorem idx₀_lt (h : InRange m) (d : Dev nD) (y : S1x204800.Idx) : (idx₀ m d y : BitVec 32).toNat < 100000 := h d _

/-! ## What the handshakes carry -/

/-- A tile's part before its task, and after. -/
def before (d : Dev nD) (c : Fin 2) (s : Fin 16) : sProp 𝕄 :=
  iprop(tabPts d (tileAt c s) (tabShare c s) (tab₀ m d) ∗ IdxWins d (tileAt c s) (idx₀ m d) ∗ OutWins d (tileAt c s))
def after (d : Dev nD) (c : Fin 2) (s : Fin 16) : sProp 𝕄 :=
  iprop(tabPts d (tileAt c s) (tabShare c s) (tab₀ m d) ∗ IdxWins d (tileAt c s) (idx₀ m d) ∗ OutDone d (tileAt c s) (out₀ m d))

instance before_storable (d : Dev nD) (c : Fin 2) (s : Fin 16) : BI.Storable (upEmb : UEmb _ 𝕄) (before m d c s) := by
  unfold before IdxWins OutWins; infer_instance
instance after_storable (d : Dev nD) (c : Fin 2) (s : Fin 16) : BI.Storable (upEmb : UEmb _ 𝕄) (after m d c s) := by
  unfold after IdxWins OutDone; infer_instance

/-- A SparseCore's part: its sixteen tiles'. -/
def coreBefore (d : Dev nD) (c : Fin 2) : sProp 𝕄 := bigSep Finset.univ fun s : Fin 16 => before m d c s
def coreAfter (d : Dev nD) (c : Fin 2) : sProp 𝕄 := bigSep Finset.univ fun s : Fin 16 => after m d c s

instance coreBefore_storable (d : Dev nD) (c : Fin 2) : BI.Storable (upEmb : UEmb _ 𝕄) (coreBefore m d c) := by
  unfold coreBefore; infer_instance
instance coreAfter_storable (d : Dev nD) (c : Fin 2) : BI.Storable (upEmb : UEmb _ 𝕄) (coreAfter m d c) := by
  unfold coreAfter; infer_instance

/-- The one call takes every tile's part to its SparseCore, and each task its own; they bring them back done. -/
def P : (K (F := F)).Pay (nD := nD) (Val := Elt F) (Name := ℕ) (U := UU) where
  st := fun q d c => coreBefore m d (Fin.cast (nCore_eq q) c)
  dn := fun q d c => coreAfter m d (Fin.cast (nCore_eq q) c)
  go := fun q d c i => before m d (Fin.cast (nCore_eq q) c) (Fin.cast (nSub_eq q) i)
  td := fun q d c i => after m d (Fin.cast (nCore_eq q) c) (Fin.cast (nSub_eq q) i)
  x := fun _ _ => iprop(emp)

instance P_storable : (P (F := F) m).IsStorable where
  st q d c := coreBefore_storable m d (Fin.cast (nCore_eq q) c)
  dn q d c := coreAfter_storable m d (Fin.cast (nCore_eq q) c)
  go q d c i := before_storable m d (Fin.cast (nCore_eq q) c) (Fin.cast (nSub_eq q) i)
  td q d c i := after_storable m d (Fin.cast (nCore_eq q) c) (Fin.cast (nSub_eq q) i)

/-! ## The obligation of a task -/

variable [FloatOps F]

theorem defs₀_vector (c : Fin τ.nSC) (s : Fin τ.nSub) :
    defs₀ (F := F) (.scVector c s) 0 ()
      = SparseCore.onTile hcore0 hsub0 (fun c s => cc0_gather_kernel (tileAt c s) tabV (Memref.isWhole_whole _) idxV (Memref.isWhole_whole _)
          outV (Memref.isWhole_whole _) listV (Memref.isWhole_whole _) cc0_scoped1 rowsV (Memref.isWhole_whole _) cc0_scoped3 cc0_scoped4) ⟨⟩ c s := rfl

theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr
  · ipureintro; exact fun p hp => (hW p hp).imp_right Or.inl
  iexact HO

theorem tileObl (h : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_run d (tileAt ⟨_, hci.1⟩ ⟨_, hci.2⟩) (tab₀ m d) (idx₀ m d) (tabShare (Fin.cast (nCore_eq 0) c) (Fin.cast (nSub_eq 0) i)) O W
    (idx₀_lt m h d) hO).trans (wp_mono frame _ _ fun _ => task_post)

omit [FloatOps F] in
theorem over_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
omit [FloatOps F] in
theorem over_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)

theorem vecSplit : (K (F := F)).VecSplit' (P m) 0 := by
  intro d c
  show coreBefore m d (Fin.cast (nCore_eq 0) c) ⊢ |={Set.univ}=> iprop(
      (bigSep Finset.univ fun i : Fin ((K (F := F)).nSub 0) => before m d (Fin.cast (nCore_eq 0) c) (Fin.cast (nSub_eq 0) i))
      ∗ ((bigSep Finset.univ fun i : Fin ((K (F := F)).nSub 0) => after m d (Fin.cast (nCore_eq 0) c) (Fin.cast (nSub_eq 0) i))
          -∗ coreAfter m d (Fin.cast (nCore_eq 0) c)))
  unfold coreBefore coreAfter
  rw [over_tasks (F := F) (before m d (Fin.cast (nCore_eq 0) c)), over_tasks (F := F) (after m d (Fin.cast (nCore_eq 0) c))]
  iintro H; imodintro
  isplitl [H]; · iexact H
  iintro H; iexact H

/-! ## The launch's own state -/

def u₀ : UU := (initOf (K (F := F)).hsCells (K (F := F)).hsToks, 1)

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [hemp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), hemp]
  iempintro

/-! ## The program on the TensorCore -/

abbrev argR : DevRef τ sig := Proc.devRef .tc (main_arg0 : Ref sig .tc)
abbrev idxR : DevRef τ sig := Proc.devRef .tc (main_v0 : Ref sig .tc)
abbrev outR : DevRef τ sig := Proc.devRef .tc (main_v1 : Ref sig .tc)
abbrev resR : DevRef τ sig := Proc.devRef .tc (main_v2 : Ref sig .tc)
abbrev opFlat : HloOp τ sig (Elt F) := StableHlo.reshape main_arg0 main_v0 (rfl : (.i32 : EltTy) = .i32) shapeCasts_S4096x50_S1x204800
abbrev opBack : HloOp τ sig (Elt F) := StableHlo.reshape main_v1 main_v2 (rfl : (.f32 : EltTy) = .f32) shapeCasts_S204800x128_S4096x50x128

/-- The arrays as the launch has them, and with the output gathered. -/
def mem₀ (d : Dev nD) : Valuation τ sig (Elt F) := fun b => m (d, b)
def mem₁ (d : Dev nD) : Valuation τ sig (Elt F) := Function.update (mem₀ m d) outR (out₀ m d)

omit [FloatOps F] in
theorem held_flat (d : Dev nD) (W : Valuation τ sig (Elt F)) :
    (held (T d) {argR, idxR} W : sProp 𝕄) = iprop((argLoc d ↦{fullShare} W argR) ∗ idxLoc d ↦{fullShare} W idxR) := by
  unfold held
  rw [SparseCore.bigSep_insert' (by decide), bigSep_singleton]
omit [FloatOps F] in
theorem held_back (d : Dev nD) (W : Valuation τ sig (Elt F)) :
    (held (T d) {outR, resR} W : sProp 𝕄) = iprop((outLoc d ↦{fullShare} W outR) ∗ resLoc d ↦{fullShare} W resR) := by
  unfold held
  rw [SparseCore.bigSep_insert' (by decide), bigSep_singleton]

omit [FloatOps F] in
theorem flat_done (d : Dev nD) :
    (held (T d) {argR, idxR} ((opFlat (F := F)).result (mem₀ m d)) : sProp 𝕄)
      = iprop((argLoc d ↦{fullShare} m (argLoc d)) ∗ idxLoc d ↦{fullShare} idx₀ m d) := by
  rw [held_flat, show (opFlat (F := F)).result (mem₀ m d) argR = m (argLoc d) from
      StableHlo.reshape_result_ne main_arg0 main_v0 _ _ _ _ (mem₀ m d) (show main_arg0 ≠ main_v0 by decide),
    show (opFlat (F := F)).result (mem₀ m d) idxR = idx₀ m d from
      StableHlo.reshape_result main_arg0 main_v0 _ _ _ _ (mem₀ m d)]
omit [FloatOps F] in
theorem back_done (d : Dev nD) :
    (held (T d) {outR, resR} ((opBack (F := F)).result (mem₁ m d)) : sProp 𝕄)
      = iprop((outLoc d ↦{fullShare} (opBack (F := F)).result (mem₁ m d) outR) ∗ resLoc d ↦{fullShare} res₀ m d) := by
  rw [held_back, show (opBack (F := F)).result (mem₁ m d) resR = res₀ m d from
    (StableHlo.reshape_result main_v1 main_v2 _ _ _ _ (mem₁ m d)).trans
      (by unfold mem₁; rw [Function.update_self]; rfl)]

omit [FloatOps F] in
theorem arrays_eq (d : Dev nD) :
    (unscopedBufs d (fun b => m ((SparseCore.T d).loc b)) : sProp 𝕄)
      = iprop((argLoc d ↦{fullShare} m (argLoc d)) ∗ (tabLoc d ↦{fullShare} m (tabLoc d)) ∗ (idxLoc d ↦{fullShare} m (idxLoc d))
          ∗ (outLoc d ↦{fullShare} m (outLoc d)) ∗ resLoc d ↦{fullShare} m (resLoc d)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit [FloatOps F] in
theorem dealt_three (A B C : Fin 2 → Fin 16 → sProp 𝕄) :
    (bigSep Finset.univ fun c => bigSep Finset.univ fun s => iprop(A c s ∗ B c s ∗ C c s))
      = iprop((bigSep Finset.univ fun c => bigSep Finset.univ fun s => A c s) ∗ (bigSep Finset.univ fun c => bigSep Finset.univ fun s => B c s)
        ∗ bigSep Finset.univ fun c => bigSep Finset.univ fun s => C c s) := by
  simp only [bigSep_sep']

omit [FloatOps F] in
/-- The call's three arrays make up all the tiles' parts. -/
theorem call_from (d : Dev nD) :
    iprop((tabLoc d ↦{fullShare} tab₀ m d) ∗ (idxLoc d ↦{fullShare} idx₀ m d) ∗ outLoc d ↦{fullShare} m (outLoc d))
      ⊢ (bigSep Finset.univ fun c : Fin ((K (F := F)).nCore 0) => (P m).st 0 d c : sProp 𝕄) := by
  refine BI.Entails.trans ?_ (Entails.of_eq (show _ = _ from over_cores (F := F) (coreBefore m d)).symm)
  unfold coreBefore before
  have h : iprop((tabLoc d ↦{fullShare} tab₀ m d) ∗ (idxLoc d ↦{fullShare} idx₀ m d) ∗ outLoc d ↦{fullShare} m (outLoc d))
      ⊢ (iprop((bigSep Finset.univ fun c => bigSep Finset.univ fun s => tabPts d (tileAt c s) (tabShare c s) (tab₀ m d))
        ∗ (bigSep Finset.univ fun c => bigSep Finset.univ fun s => IdxWins d (tileAt c s) (idx₀ m d))
        ∗ bigSep Finset.univ fun c => bigSep Finset.univ fun s => OutWins d (tileAt c s)) : sProp 𝕄) := by
    iintro ⟨Ht, Hi, Ho⟩
    isplitl [Ht]; · iapply (Entails.of_eq (tab_dealt d (tab₀ m d))) $$ Ht
    isplitl [Hi]; · iapply (Entails.of_eq (idx_dealt d (idx₀ m d))) $$ Hi
    iapply ((Entails.of_eq (out_dealt d (m (outLoc d)))).trans
      (bigSep_mono fun c _ => bigSep_mono fun s _ => outWins_any d (tileAt c s) (m (outLoc d)))) $$ Ho
  exact h.trans (Entails.of_eq (dealt_three (fun c s => tabPts d (tileAt c s) (tabShare c s) (tab₀ m d))
    (fun c s => IdxWins d (tileAt c s) (idx₀ m d)) (fun c s => OutWins d (tileAt c s))).symm)

omit [FloatOps F] in
/-- What the call leaves, joined. -/
theorem call_to (d : Dev nD) :
    (bigSep Finset.univ fun c : Fin ((K (F := F)).nCore 0) => (P m).dn 0 d c : sProp 𝕄)
      = iprop((tabLoc d ↦{fullShare} tab₀ m d) ∗ (idxLoc d ↦{fullShare} idx₀ m d) ∗ outLoc d ↦{fullShare} out₀ m d) := by
  refine (show _ = _ from over_cores (F := F) (coreAfter m d)).trans ?_
  unfold coreAfter after
  rw [tab_dealt d (tab₀ m d), idx_dealt d (idx₀ m d), out_dealt d (out₀ m d)]
  exact dealt_three (fun c s => tabPts d (tileAt c s) (tabShare c s) (tab₀ m d))
    (fun c s => IdxWins d (tileAt c s) (idx₀ m d)) (fun c s => OutDone d (tileAt c s) (out₀ m d))

/-- What the claims read at the end. -/
abbrev FIN (d : Dev nD) : sProp 𝕄 :=
  iprop((argLoc d ↦{fullShare} m (argLoc d)) ∗ (tabLoc d ↦{fullShare} m (tabLoc d)) ∗ resLoc d ↦{fullShare} res₀ m d)

theorem hFlat : (opFlat (F := F)).bufs ⊆ {argR, idxR} := show ({argR, idxR} : Finset (DevRef τ sig)) ⊆ {argR, idxR} by decide
theorem hBack : (opBack (F := F)).bufs ⊆ {outR, resR} := show ({outR, resR} : Finset (DevRef τ sig)) ⊆ {outR, resR} by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Harg, Htab, Hidx, Hout, Hres⟩, Hts, -⟩, -⟩
  -- the index array flattened
  iapply (wp_hlo_within 𝒱 (SparseCore.T d) none Set.univ (op := opFlat) (S := {argR, idxR}) hFlat (V := mem₀ m d)) $$ [Hb Harg Hidx]
  · isplitl [Hb]; · iexact Hb
    rw [held_flat]
    isplitl [Harg]; · iexact Harg
    iexact Hidx
  iintro ⟨Hb, Hh⟩
  rw [wp_ret]; imodintro
  ihave Hh := (Entails.of_eq (flat_done (F := F) m d)) $$ Hh
  icases Hh with ⟨Harg, Hidx⟩
  -- the call
  iapply ((K (F := F)).wp_run (D (F := F)) 𝒱 (EH := EH) (P := P m) κ d 0) $$ [Hst Harg Htab Hidx Hout Hres Hb Hts]
  isplitr; · iexact Hctx
  isplitl [Hst]; · iexact Hst
  isplitl [Htab Hidx Hout]
  · iapply (call_from m d)
    isplitl [Htab]; · iexact Htab
    isplitl [Hidx]; · iexact Hidx
    iexact Hout
  iintro ⟨Hst, Hdn⟩
  ihave Hdn := (Entails.of_eq (call_to m d)) $$ Hdn
  icases Hdn with ⟨Htab, -, Hout⟩
  -- the result in the index array's shape
  iapply (wp_hlo_within 𝒱 (SparseCore.T d) none Set.univ (op := opBack) (S := {outR, resR}) hBack (V := mem₁ m d)) $$ [Hb Hout Hres]
  · isplitl [Hb]; · iexact Hb
    rw [held_back, show mem₁ m d outR = out₀ m d from Function.update_self _ _ _,
      show mem₁ m d resR = m (resLoc d) from Function.update_of_ne (show resR ≠ outR by decide) _ _]
    isplitl [Hout]; · iexact Hout
    iexact Hres
  iintro ⟨Hb, Hh⟩
  ihave Hh := (Entails.of_eq (back_done (F := F) m d)) $$ Hh
  icases Hh with ⟨-, Hres⟩
  rw [wp_ret]; imodintro; imodintro
  isplitl [Hst]; · iexact Hst
  isplitr [Hb Hts]
  · isplitl [Harg]; · iexact Harg
    isplitl [Htab]; · iexact Htab
    iexact Hres
  isplitl [Hb] <;> iassumption

/-! ## The run -/

/-- What a device's final memory is known to hold. -/
def Ends (d : Dev nD) (mem : (ℓ : Loc nD τ sig) → Buf (Elt F) ℓ) : Prop :=
  mem (argLoc d) = m (argLoc d) ∧ mem (tabLoc d) = m (tabLoc d) ∧ mem (resLoc d) = res₀ m d

omit [FloatOps F] in
theorem hfin (d : Dev nD) (s' : Phys nD τ sig (Elt F)) : iprop(FIN m d ∗ SI s') ⊢ (⌜Ends m d s'.mem.mem⌝ : sProp 𝕄) := by
  iintro ⟨⟨Ha, Ht, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%h2, HSI, -⟩
  ihave H := (SI_pointsTo_agree (st := s') (ℓ := resLoc d) (I := Finset.univ) (q := fullShare) (f := res₀ m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r => (∀ d : Dev nD, Ends m d r.2.mem) ∧ r.2.sem = fun _ => 0

/-- THE RUN, over any float values: the arguments unchanged, the result the rows gathered, every semaphore at zero. -/
theorem run_main [∀ e, Nonempty (Elt F e)] (h : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fun d s' => Ends m d s'.mem.mem) (hfin m) (QC m)
    (fun _ h hz => ⟨h, hz⟩)

end Cert.Proof.Pipe

end
-- ==== Proof.Value.lean ====
module

public import proofs.«01_k».proof.Proof.Launch
public import proofs.«01_k».proof.Proof.Gen.Pre_in_vocab
public import proofs.«01_k».proof.Proof.Gen.Reference.Run
public import proofs.«01_k».proof.Proof.Gen.ReferenceIdeal.Run
public import Idealize.ShloMosaic.Lib.ReduceAll
public import Idealize.ShloMosaic.Lib.ValueIdxCore
public import Idealize.ShloMosaic.Lib.Pipeline.Value

/-! The result read at an element, for the kernel and for the reference; what the precondition says of a word. All of it
over any float values: the table's elements are moved, never computed with. -/

@[expose] public section

set_option maxRecDepth 16384

noncomputable section

namespace Cert.Proof.Taken

open Cert.Reference Cert.Reference.Gen
open Idealize.ShloMosaic

variable {F : FTy → Type}

/-! ## Words -/

theorem ofBool_eq_one (p : Bool) : (BitVec.ofBool p = 1#1) ↔ p = true := by cases p <;> decide
theorem andi_ofBool (p q : Bool) : IntOp.andi (BitVec.ofBool p) (BitVec.ofBool q) = BitVec.ofBool (p && q) := by
  cases p <;> cases q <;> decide

/-- A word between 0 and 99999 as a signed number is below 100000 as an unsigned one. -/
theorem lt_of_checks {v : BitVec 32} (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem not_negative {v : BitVec 32} (h : v.toNat < 100000) : IntOp.cmpi .slt v 0#32 = 0#1 := by
  have e : v.slt 0#32 = false := by
    simp only [BitVec.slt_eq_decide, decide_eq_false_iff_not, BitVec.toInt_eq_toNat_cond, BitVec.toNat_ofNat, Nat.reducePow, Nat.reduceMod]
    omega
  show BitVec.ofBool (v.slt 0#32) = 0#1
  rw [e]; rfl

theorem in_bounds {v : BitVec 32} (h : v.toNat < 100000) : IntOp.andi (IntOp.cmpi .sge v 0#32) (IntOp.cmpi .sle v 99999#32) = 1#1 := by
  simp only [IntOp.cmpi, andi_ofBool, ofBool_eq_one, Bool.and_eq_true, BitVec.sle_eq_decide,
    decide_eq_true_eq, BitVec.toInt_eq_toNat_cond, BitVec.toNat_ofNat, Nat.reducePow, Nat.reduceMod]
  omega

theorem toInt_toNat {v : BitVec 32} (h : v.toNat < 100000) : v.toInt.toNat = v.toNat := by
  rw [BitVec.toInt_eq_toNat_cond]; omega

/-! ## The element taken -/

/-- Entry `(i, j)` of the index array. -/
def pairIx (i : Fin 4096) (j : Fin 50) : S4096x50.Idx := fun | 0 => i | 1 => j
/-- The same entry with a third coordinate of one value. -/
def startIx (i : Fin 4096) (j : Fin 50) : S4096x50x1.Idx := fun | 0 => i | 1 => j | 2 => (0 : Fin 1)

/-- THE VALUE of the result at `y`: the table's row named by the index array's entry. -/
def valueAt (X : S4096x50.Idx → Elt F .i32) (tab : S100000x128.Idx → Elt F .f32) : S4096x50x128.Idx → Elt F .f32 :=
  fun y => tab (Pipe.tabIx (Pipe.rowOfWord (X (pairIx (y 0) (y 1)))) (y 2))

/-- The kernel's result is that value. -/
theorem result_eq (X : S4096x50.Idx → Elt F .i32) (tab : S100000x128.Idx → Elt F .f32) : Pipe.result X tab = valueAt X tab := by
  funext y
  have h0 : (y 0).val < 4096 := (y 0).isLt
  have h1 : (y 1).val < 50 := (y 1).isLt
  let r : Fin 204800 := ⟨(y 0).val * 50 + (y 1).val, by omega⟩
  let k : Cert.KernelIdeal.S204800x128.Idx := fun | 0 => r | 1 => y 2
  have hk : (Cert.KernelIdeal.S204800x128.rowMajor k).val = (Cert.KernelIdeal.S4096x50x128.rowMajor y).val := by
    rw [Shape.rowMajor_val_two, Shape.rowMajor_val_three]; rfl
  unfold Pipe.result
  refine (shapeCast_apply _ _ y k hk).trans ?_
  have hx : Pipe.flatIdx (F := F) X (Pipe.entryIx r) = X (pairIx (y 0) (y 1)) := by
    unfold Pipe.flatIdx
    refine shapeCast_apply _ _ (Pipe.entryIx r) (pairIx (y 0) (y 1)) ?_
    rw [Shape.rowMajor_val_two, Shape.rowMajor_val_two]
    show (y 0).val * 50 + (y 1).val = 0 * 204800 + ((y 0).val * 50 + (y 1).val)
    omega
  show tab (Pipe.tabIx (Pipe.rowOfWord (Pipe.flatIdx (F := F) X (Pipe.entryIx r))) (y 2)) = _
  rw [hx]; rfl

/-! ## The reference -/

variable [FloatOps F]

/-- The index array as the reference looks it up: negative entries count from the end. -/
def wrapped (X : S4096x50.Idx → Elt F .i32) : S4096x50.Idx → Elt F .i32 :=
  select (cmpi .slt X (broadcastInDim S4096x50 ![] bcast_S_S4096x50 (constantI S_ 32 0#32)))
    (addi X (broadcastInDim S4096x50 ![] bcast_S_S4096x50 (constantI S_ 32 100000#32))) X
def starts (X : S4096x50.Idx → Elt F .i32) : S4096x50x1.Idx → Elt F .i32 :=
  broadcastInDim S4096x50x1 ![0, 1] bcast_S4096x50_S4096x50x1_0_1 (wrapped (F := F) X)
/-- Where the entry names a row. -/
def named (X : S4096x50.Idx → Elt F .i32) : S4096x50.Idx → BitVec 1 :=
  Host.reduce IntOp.andi
    (andi (cmpi .sge (starts (F := F) X) (broadcastInDim S4096x50x1 ![] bcast_S_S4096x50x1 (constantI S_ 32 0#32)))
      (cmpi .sle (starts (F := F) X) (broadcastInDim S4096x50x1 ![0, 1, 2] bcast_S1x1x1_S4096x50x1_0_1_2
        (broadcastInDim S1x1x1 ![2] bcast_S1_S1x1x1_2 (constantI S1 32 99999#32)))))
    (constantI S_ 1 1#1) reducesTo_S4096x50x1_S4096x50_d2 h_S_
/-- THE REFERENCE's value. -/
def taken (X : S4096x50.Idx → Elt F .i32) (tab : S100000x128.Idx → Elt F .f32) : S4096x50x128.Idx → Elt F .f32 :=
  select (broadcastInDim S4096x50x128 ![0, 1] bcast_S4096x50_S4096x50x128_0_1 (named (F := F) X))
    (Host.gather gather_S100000x128_S4096x50x1_S4096x50x128_2_0_n_n_0_2_1128 tab (starts (F := F) X))
    (broadcastInDim S4096x50x128 ![] bcast_S_S4096x50x128 (constant S_ .f32 0x7FC00000#32))

theorem wrapped_eq (X : S4096x50.Idx → Elt F .i32) (h : ∀ x, (X x : BitVec 32).toNat < 100000) : wrapped (F := F) X = X := by
  funext x
  show Scalar.select (IntOp.cmpi .slt (X x : BitVec 32) 0#32) _ (X x) = X x
  rw [not_negative (h x)]; rfl

theorem starts_apply (X : S4096x50.Idx → Elt F .i32) (h : ∀ x, (X x : BitVec 32).toNat < 100000) (z : S4096x50x1.Idx) :
    starts (F := F) X z = X (pairIx (z 0) (z 1)) := by
  unfold starts
  rw [wrapped_eq X h]
  refine congrArg X (funext fun a => ?_)
  match a with
  | 0 => rfl
  | 1 => rfl

theorem named_one (X : S4096x50.Idx → Elt F .i32) (h : ∀ x, (X x : BitVec 32).toNat < 100000) (x : S4096x50.Idx) : named (F := F) X x = 1#1 := by
  refine Host.reduce_andi_one _ _ _ _ x rfl fun z => ?_
  show IntOp.andi (IntOp.cmpi .sge (starts (F := F) X z : BitVec 32) 0#32) (IntOp.cmpi .sle (starts (F := F) X z : BitVec 32) 99999#32) = 1#1
  rw [starts_apply X h z]
  exact in_bounds (h _)

/-- The gather of whole rows at an element: the start clamped into the table, the column kept. -/
theorem gather_apply {α : Type} (tab : S100000x128.Idx → α) (idx : IVec S4096x50x1 32) (y : S4096x50x128.Idx) :
    Host.gather gather_S100000x128_S4096x50x1_S4096x50x128_2_0_n_n_0_2_1128 tab idx y
      = tab (Pipe.tabIx ⟨min (idx (startIx (y 0) (y 1))).toInt.toNat 99999, by omega⟩ (y 2)) := by
  let g := gather_S100000x128_S4096x50x1_S4096x50x128_2_0_n_n_0_2_1128
  have hnb : ∀ a, g.batchCoord y a = 0 := fun a => g.batchCoord_eq_zero _ _ List.not_mem_nil
  refine congrArg tab (funext fun a => Fin.ext ?_)
  show g.start y idx a + g.batchCoord y a + g.offCoord y a = _
  rw [hnb]
  match a with
  | 0 =>
    have hs : (0 : Fin 2) ∈ g.startIndexMap := List.mem_singleton.mpr rfl
    have ho : g.offCoord y (0 : Fin 2) = 0 := g.offCoord_eq_zero _ _ fun h => ((g.mem_sKept _).mp h).1 (List.mem_singleton.mpr rfl)
    have hi : g.siIdx y ⟨g.startIndexMap.idxOf (0 : Fin 2), List.idxOf_lt_length_iff.2 hs⟩ = startIx (y 0) (y 1) := by
      funext b
      match b with
      | 0 => exact Fin.ext rfl
      | 1 => exact Fin.ext rfl
      | 2 => exact Fin.ext rfl
    have hst : g.start y idx (0 : Fin 2) = min (idx (startIx (y 0) (y 1))).toInt.toNat 99999 := by
      unfold GatherDims.start
      rw [dif_pos hs, hi]; rfl
    show g.start y idx (0 : Fin 2) + 0 + g.offCoord y (0 : Fin 2) = min (idx (startIx (y 0) (y 1))).toInt.toNat 99999
    rw [ho, hst]; rfl
  | 1 =>
    have hs : (1 : Fin 2) ∉ g.startIndexMap := by show (1 : Fin 2) ∉ [(0 : Fin 2)]; decide
    have hk : (1 : Fin 2) ∈ g.sKept := (g.mem_sKept _).mpr ⟨by show (1 : Fin 2) ∉ [(0 : Fin 2)]; decide, List.not_mem_nil⟩
    have hst : g.start y idx (1 : Fin 2) = 0 := by
      unfold GatherDims.start
      rw [dif_neg hs]
    have ho : g.offCoord y (1 : Fin 2) = (y 2).val := by
      unfold GatherDims.offCoord
      rw [dif_pos hk]; rfl
    show g.start y idx (1 : Fin 2) + 0 + g.offCoord y (1 : Fin 2) = (y 2).val
    rw [hst, ho]; omega

/-- Under the range of the words, the reference's value is the value taken. -/
theorem taken_eq (X : S4096x50.Idx → Elt F .i32) (tab : S100000x128.Idx → Elt F .f32) (h : ∀ x, (X x : BitVec 32).toNat < 100000) :
    taken X tab = valueAt X tab := by
  funext y
  have hm : broadcastInDim S4096x50x128 ![0, 1] bcast_S4096x50_S4096x50x128_0_1 (named (F := F) X) y = 1#1 := named_one X h _
  unfold taken
  show Scalar.select _ (Host.gather gather_S100000x128_S4096x50x1_S4096x50x128_2_0_n_n_0_2_1128 tab (starts (F := F) X) y) _ = _
  rw [hm]
  refine (show Scalar.select 1#1 (Host.gather gather_S100000x128_S4096x50x1_S4096x50x128_2_0_n_n_0_2_1128 tab (starts (F := F) X) y) _ = _ from rfl).trans
    ((gather_apply tab (starts (F := F) X) y).trans ?_)
  refine congrArg (fun r => tab (Pipe.tabIx r (y 2))) (Fin.ext ?_)
  have hs : starts (F := F) X (startIx (y 0) (y 1)) = X (pairIx (y 0) (y 1)) := starts_apply X h _
  show min (starts (F := F) X (startIx (y 0) (y 1)) : BitVec 32).toInt.toNat 99999 = min (X (pairIx (y 0) (y 1)) : BitVec 32).toNat 99999
  rw [hs, toInt_toNat (h _)]

/-- The kernel's result is the reference's. -/
theorem result_eq_taken (X : S4096x50.Idx → Elt F .i32) (tab : S100000x128.Idx → Elt F .f32) (h : ∀ x, (X x : BitVec 32).toNat < 100000) :
    Pipe.result X tab = taken X tab := (result_eq X tab).trans (taken_eq X tab h).symm

/-! ## The precondition -/

instance : Subsingleton Cert.Pre_in_vocab.S_.Idx := ⟨fun _ _ => funext fun a => a.elim0⟩

/-- The precondition, one bit, says of every entry that it names a row of the table. -/
theorem range_of_pre (X : S4096x50.Idx → Elt F .i32) (tab : S100000x128.Idx → Elt F .f32)
    (h : Cert.Pre_in_vocab.fn (F := F) X tab = fun _ => 1#1) (x : S4096x50.Idx) : (X x : BitVec 32).toNat < 100000 := by
  have e := congrFun h (fun a => a.elim0)
  unfold Cert.Pre_in_vocab.fn at e
  exact lt_of_checks (Host.reduce_andi_all _ _ _ _ _ e x)

end Cert.Proof.Taken

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_vocab
public import proofs.«01_k».proof.Proof.Gen.Reference.Run
public import proofs.«01_k».proof.Proof.Gen.ReferenceIdeal.Run
public import proofs.«01_k».proof.Proof.Value
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Kernel

/-- The word ranges the kernel's run asks for, at the formats. -/
theorem range_kernel (m : (ℓ : Loc Cert.Kernel.nD Cert.Kernel.τ Cert.Kernel.sig) → Buf (Elt Bits) ℓ) (h : Cert.Pre_Kernel m) :
    Pipe.InRange (F := Bits) m := fun d x => Taken.range_of_pre (F := Bits) _ _ (h d) x

/-- The same at the extended reals. -/
theorem range_kernelIdeal (m : (ℓ : Loc Cert.KernelIdeal.nD Cert.KernelIdeal.τ Cert.KernelIdeal.sig) → Buf (Elt Ideal) ℓ)
    (h : Cert.Pre_KernelIdeal m) : Pipe.InRange (F := Ideal) m := fun d x => Taken.range_of_pre (F := Ideal) _ _ (h d) x

theorem frame_kernel : Cert.quiescent_Kernel := fun m ρ hp =>
  (θ_run Cert.KernelIdeal.defs _ _).mono (fun _ h => ⟨fun c => ⟨(h.1 c).1, (h.1 c).2.1⟩, h.2⟩)
    (Pipe.run_main (F := Bits) m ρ (range_kernel m hp))

theorem frame_kernelIdeal : Cert.quiescent_KernelIdeal := fun m ρ hp =>
  (θ_run Cert.KernelIdeal.defs _ _).mono (fun _ h => ⟨fun c => ⟨(h.1 c).1, (h.1 c).2.1⟩, h.2⟩)
    (Pipe.run_main (F := Ideal) m ρ (range_kernelIdeal m hp))

/-- The reference declares no semaphore, so its counters are zero at the end as at the start. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_in_vocab : Cert.quiescent_ReferenceIdeal_pre_in_vocab := fun m ρ _ => frame_referenceIdeal m ρ trivial

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- From memories agreeing on the arguments, the reference ends with the kernel's result: at the extended reals. -/
theorem algebraic : Cert.algebraic_KernelIdeal_ReferenceIdeal := by
  intro m ρ m' ρ' hp hm
  refine ⟨fun c => Pipe.res₀ (F := Ideal) m c,
    (θ_run Cert.KernelIdeal.defs _ _).mono (fun _ h c => ⟨(h.1 c).2.2, (h.1 c).1, (h.1 c).2.1⟩)
      (Pipe.run_main (F := Ideal) m ρ (range_kernelIdeal m hp)),
    (θ_run Cert.ReferenceIdeal.defs _ _).mono (fun _ h c => ⟨(h c).1.trans ?_, (h c).2⟩)
      (Cert.ReferenceIdeal.Value.run (F := Ideal) m' ρ')⟩
  rw [(hm c).1, (hm c).2]
  exact (Taken.result_eq_taken (F := Ideal) _ _ (range_kernelIdeal m hp c)).symm

/-- The same at the formats, bit for bit. -/
theorem bitexact : Cert.bitexact_Kernel_Reference := by
  intro m ρ m' ρ' hp hm
  refine ⟨fun c => Pipe.res₀ (F := Bits) m c,
    (θ_run Cert.KernelIdeal.defs _ _).mono (fun _ h c => ⟨(h.1 c).2.2, (h.1 c).1, (h.1 c).2.1⟩)
      (Pipe.run_main (F := Bits) m ρ (range_kernel m hp)),
    (θ_run Cert.Reference.defs _ _).mono (fun _ h c => ⟨(h c).1.trans ?_, (h c).2⟩)
      (Cert.Reference.Value.run (F := Bits) m' ρ')⟩
  rw [(hm c).1, (hm c).2]
  exact (Taken.result_eq_taken (F := Bits) _ _ (range_kernel m hp c)).symm

theorem claim : Cert.Claim := ⟨Cert.Kernel.Gen.facts, Cert.KernelIdeal.Gen.facts, Cert.ReferenceIdeal.Gen.facts, Cert.Reference.Gen.facts, Cert.Pre_in_vocab.Gen.facts,
  frame_kernel, frame_kernelIdeal, frame_referenceIdeal, frame_referenceIdeal_in_vocab, frame_reference, trivial, algebraic, bitexact⟩

end Cert.Proof

end
